-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_zero_row [hPre_no_zero_row : Cert.Pre_no_zero_row.Facts] (m : (ℓ : Loc Cert.KernelIdeal.nD Cert.KernelIdeal.τ Cert.KernelIdeal.sig) → Buf (Elt Ideal) ℓ) : Prop :=
  ∀ c : Dev Cert.KernelIdeal.nD,
    (Cert.Pre_no_zero_row.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_zero_row [hPre_no_zero_row : Cert.Pre_no_zero_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_zero_row.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_zero_row [hKernelIdeal : Cert.KernelIdeal.Facts] [hPre_no_zero_row : Cert.Pre_no_zero_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_zero_row m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_zero_row [hReferenceIdeal : Cert.ReferenceIdeal.Facts] [hPre_no_zero_row : Cert.Pre_no_zero_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_zero_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_zero_row [hKernelIdeal : Cert.KernelIdeal.Facts] [hReferenceIdeal : Cert.ReferenceIdeal.Facts] [hPre_no_zero_row : Cert.Pre_no_zero_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_zero_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_zero_row : Cert.Pre_no_zero_row.Facts),
    quiescent_Kernel (hKernel := hKernel)
    ∧ quiescent_KernelIdeal (hKernelIdeal := hKernelIdeal)
    ∧ quiescent_KernelIdeal_pre_no_zero_row (hKernelIdeal := hKernelIdeal) (hPre_no_zero_row := hPre_no_zero_row)
    ∧ quiescent_ReferenceIdeal (hReferenceIdeal := hReferenceIdeal)
    ∧ quiescent_ReferenceIdeal_pre_no_zero_row (hReferenceIdeal := hReferenceIdeal) (hPre_no_zero_row := hPre_no_zero_row)
    ∧ preserves_Kernel_KernelIdeal
    ∧ algebraic_KernelIdeal_ReferenceIdeal_pre_no_zero_row (hKernelIdeal := hKernelIdeal) (hReferenceIdeal := hReferenceIdeal) (hPre_no_zero_row := hPre_no_zero_row)
-- ==== Pre_no_zero_row.lean ====
abbrev S16384x64 : Shape := ⟨2, ![16384, 64]⟩
abbrev S_ : Shape := ⟨0, ![]⟩
abbrev S16384 : Shape := ⟨1, ![16384]⟩

class Facts : Prop where
  bcast_S_S16384x64 : S_.BroadcastsInDim S16384x64 (![] : Fin 0 → Fin S16384x64.rank)
  reducesTo_S16384x64_S16384_d1 : S16384x64.ReducesTo [1] S16384
  h_S_ : 0 < S_.numel
  reducesTo_S16384_S_d0 : S16384.ReducesTo [0] S_

variable [Facts]

def fn {F : FTy → Type} [FloatOps F] (main_arg0 : FVec F S16384x64 .f32) : IVec S_ 1 :=
  let main_cst : FVec F S_ .f32 := constant S_ .f32 0x00000000#32
  let main_v0 : FVec F S16384x64 .f32 := broadcastInDim S16384x64 ![] bcast_S_S16384x64 main_cst
  let main_v1 : IVec S16384x64 1 := cmpf .une main_arg0 main_v0
  let main_c : IVec S_ 1 := constantI S_ 1 0#1
  let main_v2 : IVec S16384 1 := (fun x v => Host.reduce IntOp.ori x v reducesTo_S16384x64_S16384_d1 h_S_) main_v1 main_c
  let main_c_0 : IVec S_ 1 := constantI S_ 1 1#1
  let main_v3 : IVec S_ 1 := (fun x v => Host.reduce IntOp.andi x v reducesTo_S16384_S_d0 h_S_) main_v2 main_c_0
  main_v3
-- ==== Kernel.lean ====
abbrev S16384x64 : Shape := ⟨2, ![16384, 64]⟩
abbrev S16384 : Shape := ⟨1, ![16384]⟩
abbrev S16384x1 : Shape := ⟨2, ![16384, 1]⟩
abbrev S128x16384x128 : Shape := ⟨3, ![128, 16384, 128]⟩
abbrev S16384x10 : Shape := ⟨2, ![16384, 10]⟩
abbrev S128x64 : Shape := ⟨2, ![128, 64]⟩
abbrev S128x128x128 : Shape := ⟨3, ![128, 128, 128]⟩
abbrev S128x10 : Shape := ⟨2, ![128, 10]⟩
abbrev S128x16384 : Shape := ⟨2, ![128, 16384]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S2097152x128 : Shape := ⟨2, ![2097152, 128]⟩
abbrev S_ : Shape := ⟨0, ![]⟩
abbrev S10x16384 : Shape := ⟨2, ![10, 16384]⟩
abbrev S1280x128 : Shape := ⟨2, ![1280, 128]⟩
abbrev S163840x128 : Shape := ⟨2, ![163840, 128]⟩
abbrev S40x128 : Shape := ⟨2, ![40, 128]⟩
abbrev S512x128 : Shape := ⟨2, ![512, 128]⟩
abbrev S1x128 : Shape := ⟨2, ![1, 128]⟩
abbrev S10x16384x128 : Shape := ⟨3, ![10, 16384, 128]⟩
abbrev S10x128x128 : Shape := ⟨3, ![10, 128, 128]⟩
abbrev S128x1280 : Shape := ⟨2, ![128, 1280]⟩
abbrev S128x10x1 : Shape := ⟨3, ![128, 10, 1]⟩
abbrev S128x10x128 : Shape := ⟨3, ![128, 10, 128]⟩
abbrev S163840 : Shape := ⟨1, ![163840]⟩
abbrev S1x163840 : Shape := ⟨2, ![1, 163840]⟩
abbrev S2x163840 : Shape := ⟨2, ![2, 163840]⟩

abbrev nBuf : Table → Nat
  | .hbm => 26
  | .local .tc .vmem => 21
  | .local .scVector .vmem => 2
  | _ => 0

abbrev bufTy : (tb : Table) → Fin (nBuf tb) → BufTy
  | .hbm, ⟨0, _⟩ => ⟨S16384x64, .f32⟩
  | .hbm, ⟨1, _⟩ => ⟨S16384x64, .f32⟩
  | .hbm, ⟨2, _⟩ => ⟨S128x16384x128, .f32⟩
  | .hbm, ⟨3, _⟩ => ⟨S16384x10, .i32⟩
  | .hbm, ⟨4, _⟩ => ⟨S16384x10, .i32⟩
  | .hbm, ⟨5, _⟩ => ⟨S2097152x128, .f32⟩
  | .hbm, ⟨6, _⟩ => ⟨S_, .i32⟩
  | .hbm, ⟨7, _⟩ => ⟨S_, .i32⟩
  | .hbm, ⟨8, _⟩ => ⟨S16384x10, .i32⟩
  | .hbm, ⟨9, _⟩ => ⟨S16384x10, .i32⟩
  | .hbm, ⟨10, _⟩ => ⟨S16384x10, .i32⟩
  | .hbm, ⟨11, _⟩ => ⟨S10x16384, .i32⟩
  | .hbm, ⟨12, _⟩ => ⟨S1280x128, .i32⟩
  | .hbm, ⟨13, _⟩ => ⟨S163840x128, .f32⟩
  | .hbm, ⟨14, _⟩ => ⟨S10x16384x128, .f32⟩
  | .hbm, ⟨15, _⟩ => ⟨S16384x10, .f32⟩
  | .hbm, ⟨16, _⟩ => ⟨S16384x10, .i32⟩
  | .hbm, ⟨17, _⟩ => ⟨S16384x10, .f32⟩
  | .hbm, ⟨18, _⟩ => ⟨S16384, .i32⟩
  | .hbm, ⟨19, _⟩ => ⟨S16384x10, .i32⟩
  | .hbm, ⟨20, _⟩ => ⟨S163840, .i32⟩
  | .hbm, ⟨21, _⟩ => ⟨S163840, .i32⟩
  | .hbm, ⟨22, _⟩ => ⟨S1x163840, .i32⟩
  | .hbm, ⟨23, _⟩ => ⟨S1x163840, .i32⟩
  | .hbm, ⟨24, _⟩ => ⟨S2x163840, .i32⟩
  | .hbm, ⟨25, _⟩ => ⟨S163840, .f32⟩
  | .local .tc .vmem, ⟨0, _⟩ => ⟨S16384x64, .f32⟩
  | .local .tc .vmem, ⟨1, _⟩ => ⟨S16384x64, .f32⟩
  | .local .tc .vmem, ⟨2, _⟩ => ⟨S128x64, .f32⟩
  | .local .tc .vmem, ⟨3, _⟩ => ⟨S128x64, .f32⟩
  | .local .tc .vmem, ⟨4, _⟩ => ⟨S16384x64, .f32⟩
  | .local .tc .vmem, ⟨5, _⟩ => ⟨S128x128x128, .f32⟩
  | .local .tc .vmem, ⟨6, _⟩ => ⟨S128x128x128, .f32⟩
  | .local .tc .vmem, ⟨7, _⟩ => ⟨S128x10, .i32⟩
  | .local .tc .vmem, ⟨8, _⟩ => ⟨S128x10, .i32⟩
  | .local .tc .vmem, ⟨9, _⟩ => ⟨S128x10, .i32⟩
  | .local .tc .vmem, ⟨10, _⟩ => ⟨S128x10, .i32⟩
  | .local .tc .vmem, ⟨11, _⟩ => ⟨S10x128x128, .f32⟩
  | .local .tc .vmem, ⟨12, _⟩ => ⟨S10x128x128, .f32⟩
  | .local .tc .vmem, ⟨13, _⟩ => ⟨S128x10, .i32⟩
  | .local .tc .vmem, ⟨14, _⟩ => ⟨S128x10, .i32⟩
  | .local .tc .vmem, ⟨15, _⟩ => ⟨S128x10, .f32⟩
  | .local .tc .vmem, ⟨16, _⟩ => ⟨S128x10, .f32⟩
  | .local .tc .vmem, ⟨17, _⟩ => ⟨S128x10, .i32⟩
  | .local .tc .vmem, ⟨18, _⟩ => ⟨S128x10, .i32⟩
  | .local .tc .vmem, ⟨19, _⟩ => ⟨S128x10, .f32⟩
  | .local .tc .vmem, ⟨20, _⟩ => ⟨S128x10, .f32⟩
  | .local .scVector .vmem, ⟨0, _⟩ => ⟨S40x128, .i32⟩
  | .local .scVector .vmem, ⟨1, _⟩ => ⟨S512x128, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v2_scv : Ref sig .scVector := ⟨.hbm, 5, rfl⟩
abbrev main_v7_scv : Ref sig .scVector := ⟨.hbm, 12, rfl⟩
abbrev main_v8_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc3_stg4_0 : Ref sig .tc := ⟨.vmem, 19, rfl⟩
abbrev cc3_stg4_1 : Ref sig .tc := ⟨.vmem, 20, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S16384x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x10 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x10 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v3 : BitVec 32 := Scalar.muli v1 c40_i32
  let c0_i32_2_r0 : BitVec 32 := 0#32
  ![v3.toNat, 0]
@[reducible] def k2_t1_loop : Scf.Loop 32 :=
  let c0_i32_0 : BitVec 32 := 0#32
  let c10_i32 : BitVec 32 := 10#32
  let v4 : BitVec 32 := Scalar.addi c0_i32_0 c10_i32
  let c1_i32 : BitVec 32 := 1#32
  ⟨c0_i32_0, v4, c1_i32⟩
def k2_off2 (k2_t1 : Fin k2_t1_loop.trips) (c0_i32_2 : BitVec 32) : Fin 2 → Nat :=
  let c0_i32_0 : BitVec 32 := 0#32
  let c1_i32 : BitVec 32 := 1#32
  let arg12 : BitVec 32 := Scf.iv c0_i32_0 c1_i32 k2_t1
  let c4_i32 : BitVec 32 := 4#32
  let v5 : BitVec 32 := Scalar.muli arg12 c4_i32
  let v6 : BitVec 32 := Scalar.addi v5 c0_i32_2
  let c0_i32_5 : BitVec 32 := 0#32
  ![v6.toNat, 0]
def k2_off3 (i : grid2.Coords) (k2_t1 : Fin k2_t1_loop.trips) (c0_i32_27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let c0_i32_0 : BitVec 32 := 0#32
  let c1_i32 : BitVec 32 := 1#32
  let arg12 : BitVec 32 := Scf.iv c0_i32_0 c1_i32 k2_t1
  let c4_i32 : BitVec 32 := 4#32
  let v5 : BitVec 32 := Scalar.muli arg12 c4_i32
  let v30 : BitVec 32 := Scalar.addi v5 c0_i32_27
  let c128_i32_28 : BitVec 32 := 128#32
  let v31 : BitVec 32 := Scalar.muli v30 c128_i32_28
  let v32 : BitVec 32 := Scalar.addi v2 v31
  let c0_i32_31 : BitVec 32 := 0#32
  ![v32.toNat, 0]
abbrev grid3 : Pipeline.Grid := ⟨1, ![128], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10x128x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x10 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x10 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x16384 : Shape := ⟨2, ![64, 16384]⟩
abbrev S16384x16384 : Shape := ⟨2, ![16384, 16384]⟩
abbrev S16384x10 : Shape := ⟨2, ![16384, 10]⟩
abbrev S163840 : Shape := ⟨1, ![163840]⟩
abbrev S1x163840 : Shape := ⟨2, ![1, 163840]⟩
abbrev S2x163840 : Shape := ⟨2, ![2, 163840]⟩
abbrev S163840x1 : Shape := ⟨2, ![163840, 1]⟩

abbrev nBuf : Space → Nat
  | .hbm => 57
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S16384x64, .f32⟩
  | .hbm, ⟨7, _⟩ => ⟨S16384x64, .f32⟩
  | .hbm, ⟨8, _⟩ => ⟨S64x16384, .f32⟩
  | .hbm, ⟨9, _⟩ => ⟨S16384x16384, .f32⟩
  | .hbm, ⟨10, _⟩ => ⟨S16384x10, .f32⟩
  | .hbm, ⟨11, _⟩ => ⟨S16384x10, .i32⟩
  | .hbm, ⟨12, _⟩ => ⟨S16384, .i32⟩
  | .hbm, ⟨13, _⟩ => ⟨S16384x10, .i32⟩
  | .hbm, ⟨14, _⟩ => ⟨S163840, .i32⟩
  | .hbm, ⟨15, _⟩ => ⟨S163840, .i32⟩
  | .hbm, ⟨16, _⟩ => ⟨S1x163840, .i32⟩
  | .hbm, ⟨17, _⟩ => ⟨S1x163840, .i32⟩
  | .hbm, ⟨18, _⟩ => ⟨S2x163840, .i32⟩
  | .hbm, ⟨19, _⟩ => ⟨S_, .f32⟩
  | .hbm, ⟨20, _⟩ => ⟨S163840, .f32⟩
  | .hbm, ⟨21, _⟩ => ⟨S_, .f32⟩
  | .hbm, ⟨22, _⟩ => ⟨S16384, .f32⟩
  | .hbm, ⟨23, _⟩ => ⟨S_, .i32⟩
  | .hbm, ⟨24, _⟩ => ⟨S163840, .i32⟩
  | .hbm, ⟨25, _⟩ => ⟨S163840, .i1⟩
  | .hbm, ⟨26, _⟩ => ⟨S_, .i32⟩
  | .hbm, ⟨27, _⟩ => ⟨S163840, .i32⟩
  | .hbm, ⟨28, _⟩ => ⟨S163840, .i32⟩
  | .hbm, ⟨29, _⟩ => ⟨S163840, .i32⟩
  | .hbm, ⟨30, _⟩ => ⟨S163840x1, .i32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S_, .i32⟩
  | .hbm, ⟨39, _⟩ => ⟨S163840, .i32⟩
  | .hbm, ⟨40, _⟩ => ⟨S163840, .i1⟩
  | .hbm, ⟨41, _⟩ => ⟨S_, .i32⟩
  | .hbm, ⟨42, _⟩ => ⟨S163840, .i32⟩
  | .hbm, ⟨43, _⟩ => ⟨S163840, .i32⟩
  | .hbm, ⟨44, _⟩ => ⟨S163840, .i32⟩
  | .hbm, ⟨45, _⟩ => ⟨S163840x1, .i32⟩
  | .hbm, ⟨46, _⟩ => ⟨S163840, .f32⟩
  | .hbm, ⟨47, _⟩ => ⟨S_, .i32⟩
  | .hbm, ⟨48, _⟩ => ⟨S163840, .i32⟩
  | .hbm, ⟨49, _⟩ => ⟨S163840, .i1⟩
  | .hbm, ⟨50, _⟩ => ⟨S_, .i32⟩
  | .hbm, ⟨51, _⟩ => ⟨S163840, .i32⟩
  | .hbm, ⟨52, _⟩ => ⟨S163840, .i32⟩
  | .hbm, ⟨53, _⟩ => ⟨S163840, .i32⟩
  | .hbm, ⟨54, _⟩ => ⟨S163840x1, .i32⟩
  | .hbm, ⟨55, _⟩ => ⟨S163840, .f32⟩
  | .hbm, ⟨56, _⟩ => ⟨S163840, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.KI.Setup.lean ====
/-
  The launch as the SparseCore theorem sees it: the program's parts by name, the ghost state (the handshakes' rounds, the
  TensorCore pipelines' rounds, the transfers' counters), and what the one SparseCore call carries. The call's payload is
  stated over three contents: the table, the list of rows and what the result held before.
-/
module

public import Idealize.ShloMosaic.Lib.SparseCore.Stream
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen tiles of each SparseCore. -/
theorem nSub_zero : (K (F := F)).nSub 0 = 16 := rfl
/-- The call runs on two SparseCores. -/
theorem nCore_zero : (K (F := F)).nCore 0 = 2 := rfl

/-- The handshakes' semaphores are distinct and no scope's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left of the right component. -/
def EP : Emb UP (MT nD τ sig (HIx 1) (Elt F) ℕ UU ℕ) := (Emb.inl : Emb UP (UP × Counters)).trans embR
instance EP_landsIn : (EP (F := F) : Emb UP (MT nD τ sig (HIx 1) (Elt F) ℕ UU ℕ)).LandsIn (upEmb : UEmb _ 𝕄) := by unfold EP; infer_instance

/-! ## The buffers of the call -/

abbrev tLoc (d : Dev nD) : Loc nD τ sig := (SparseCore.T d).loc main_v2
abbrev xLoc (d : Dev nD) : Loc nD τ sig := (SparseCore.T d).loc main_v7
abbrev oLoc (d : Dev nD) : Loc nD τ sig := (SparseCore.T d).loc main_v8

abbrev tV : Memref sig .scVector .hbm S2097152x128 .f32 := Memref.whole main_v2_scv
abbrev xV : Memref sig .scVector .hbm S1280x128 .i32 := Memref.whole main_v7_scv
abbrev oV : Memref sig .scVector .hbm S163840x128 .f32 := Memref.whole main_v8_scv
abbrev sV : Memref sig .scVector .vmem S40x128 .i32 := Memref.whole cc2_scratch0
abbrev rV : Memref sig .scVector .vmem S512x128 .f32 := Memref.whole cc2_scratch1

/-! ## What the call computes -/

/-- Column `c` of gathered row `n`: the table's row that entry `n` of the list names. -/
def gath {e : EltTy} (tb : S2097152x128.Idx → Elt F e) (ix : S1280x128.Idx → BitVec 32) (n : Nat) (c : Fin 128) : Elt F e :=
  tb (ix2 ⟨(ix (ix2 ⟨n / 128 % 1280, Nat.mod_lt _ (by decide)⟩ ⟨n % 128, Nat.mod_lt _ (by decide)⟩)).toNat % 2097152, Nat.mod_lt _ (by decide)⟩ c)

/-- The call's result from its table and list. -/
def gathered (tb : S2097152x128.Idx → Elt F .f32) (ix : S1280x128.Idx → BitVec 32) : S163840x128.Idx → Elt F .f32 :=
  fun x => gath tb ix (x 0).val (x 1)

/-- The result with the rows below `lo + n` of the block from `lo` gathered, the others as they were. -/
def partly (tb : S2097152x128.Idx → Elt F .f32) (ix : S1280x128.Idx → BitVec 32) (o0 : S163840x128.Idx → Elt F .f32) (n : Nat) :
    S163840x128.Idx → Elt F .f32 := fun x => if (x 0).val < n then gath tb ix (x 0).val (x 1) else o0 x

/-! ## What the call's handshakes carry -/

/-- The number of the tile `(c, s)`. -/
def wid (c : Fin 2) (s : Fin 16) : Fin 32 := ⟨2 * s.val + c.val, by omega⟩

/-- The rows of the result that tile `w` writes. -/
def oset (w : Fin 32) : Finset S163840x128.Idx := Finset.univ.filter fun x => 5120 * w.val ≤ (x 0).val ∧ (x 0).val < 5120 * w.val + 5120

/-- Tile `w` writes the rows from `5120 w` up to the next tile's. -/
theorem mem_oset {w : Fin 32} {x : S163840x128.Idx} : x ∈ oset w ↔ 5120 * w.val ≤ (x 0).val ∧ (x 0).val < 5120 * w.val + 5120 := by
  simp [oset]

/-- Tile `w`'s share of the table and of the list. -/
abbrev shr (w : Fin 32) : PosShare TreeShare := ShareLeaves.leaf 5 fullShare w

variable (tb : Dev nD → S2097152x128.Idx → Elt F .f32) (ix : Dev nD → S1280x128.Idx → BitVec 32) (o0 : Dev nD → S163840x128.Idx → Elt F .f32)

abbrev tPts (d : Dev nD) (w : Fin 32) : sProp 𝕄 := tLoc d ↦{shr w} (tb d : Buf (Elt F) (tLoc d))
abbrev xPts (d : Dev nD) (w : Fin 32) : sProp 𝕄 := xLoc d ↦{shr w} (ix d : Buf (Elt F) (xLoc d))
abbrev oPts (d : Dev nD) (w : Fin 32) (f : S163840x128.Idx → Elt F .f32) : sProp 𝕄 := oLoc d ↦[oset w]{fullShare} (f : Buf (Elt F) (oLoc d))

/-- What tile `w` is handed. -/
def goP (d : Dev nD) (w : Fin 32) : sProp 𝕄 := iprop(tPts tb d w ∗ xPts ix d w ∗ oPts d w (o0 d))
/-- What tile `w` hands back: its rows of the result gathered. -/
def tdP (d : Dev nD) (w : Fin 32) : sProp 𝕄 := iprop(tPts tb d w ∗ xPts ix d w ∗ oPts d w (gathered (tb d) (ix d)))

instance goP_storable (d : Dev nD) (w : Fin 32) : BI.Storable (upEmb : UEmb _ 𝕄) (goP tb ix o0 d w) := by unfold goP; infer_instance
instance tdP_storable (d : Dev nD) (w : Fin 32) : BI.Storable (upEmb : UEmb _ 𝕄) (tdP tb ix d w) := by unfold tdP; infer_instance

def P : (K (F := F)).Pay (nD := nD) (Val := Elt F) (Name := ℕ) (U := UU) where
  st := fun q d c => match q with
    | 0 => bigSep Finset.univ fun i : Fin 16 => goP tb ix o0 d (wid (Fin.cast nCore_zero c) i)
  dn := fun q d c => match q with
    | 0 => bigSep Finset.univ fun i : Fin 16 => tdP tb ix d (wid (Fin.cast nCore_zero c) i)
  go := fun q d c i => match q with | 0 => goP tb ix o0 d (wid (Fin.cast nCore_zero c) (Fin.cast nSub_zero i))
  td := fun q d c i => match q with | 0 => tdP tb ix d (wid (Fin.cast nCore_zero c) (Fin.cast nSub_zero i))
  x := fun _ _ => iprop(emp)

instance P_storable : (P (F := F) tb ix o0).IsStorable where
  st q d c := match q with
    | 0 => (inferInstance : BI.Storable (upEmb : UEmb _ 𝕄) (bigSep Finset.univ fun i : Fin 16 => goP tb ix o0 d (wid (Fin.cast nCore_zero c) i)))
  dn q d c := match q with
    | 0 => (inferInstance : BI.Storable (upEmb : UEmb _ 𝕄) (bigSep Finset.univ fun i : Fin 16 => tdP tb ix d (wid (Fin.cast nCore_zero c) i)))
  go q d c i := match q with | 0 => goP_storable tb ix o0 d _
  td q d c i := match q with | 0 => tdP_storable tb ix d _

/-- The SparseCore's payload is its tiles' payloads, so handing it to the tiles changes nothing. -/
theorem vecSplit : (K (F := F)).VecSplit' (P tb ix o0) 0 := by
  intro d c
  show (bigSep Finset.univ fun i : Fin 16 => goP tb ix o0 d (wid (Fin.cast nCore_zero c) i)) ⊢ |={Set.univ}=> iprop(
      (bigSep Finset.univ fun i : Fin 16 => goP tb ix o0 d (wid (Fin.cast nCore_zero c) i))
      ∗ ((bigSep Finset.univ fun i : Fin 16 => tdP tb ix d (wid (Fin.cast nCore_zero c) i))
          -∗ bigSep Finset.univ fun i : Fin 16 => tdP tb ix d (wid (Fin.cast nCore_zero c) i)))
  iintro H; imodintro
  isplitl [H]; · iexact H
  iintro H; iexact H

end Cert.Proof.KI

end
-- ==== Proof.KI.SimBody.lean ====
/-
  The similarity kernel's body at one grid point: what it leaves in its three result blocks.
-/
module

public import proofs.«01_k».proof.Proof.KI.Setup

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A buffer's contents on core `c`, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- The similarity body: from the five blocks held whole it runs to its return, the operands' as they were. -/
noncomputable def simRun (c : Dev nD) (i : grid1.Coords) (M1 : Memref sig .tc .vmem S128x64 .f32) (h1 : M1.IsWhole) (M2 : Memref sig .tc .vmem S16384x64 .f32) (h2 : M2.IsWhole)
    (M3 : Memref sig .tc .vmem S128x128x128 .f32) (h3 : M3.IsWhole) (M4 : Memref sig .tc .vmem S128x10 .i32) (h4 : M4.IsWhole) (M5 : Memref sig .tc .vmem S128x10 .i32) (h5 : M5.IsWhole)
    (f1 : Bf (F := F) c M1) (f2 : Bf (F := F) c M2) :
    { W : Bf (F := F) c M3 × Bf (F := F) c M4 × Bf (F := F) c M5 // ∀ (f3 : Bf (F := F) c M3) (f4 : Bf (F := F) c M4) (f5 : Bf (F := F) c M5) (E : Set ℕ) (Q : PUnit → sProp 𝕄),
        iprop(pt c M1 f1 ∗ pt c M2 f2 ∗ pt c M3 f3 ∗ pt c M4 f4 ∗ pt c M5 f5 ∗ (iprop(pt c M1 f1 ∗ pt c M2 f2 ∗ pt c M3 W.1 ∗ pt c M4 W.2.1 ∗ pt c M5 W.2.2) -∗ Q ⟨⟩))
          ⊢ wp frame (wpE (defs₀ (F := F)) 𝒱₀ (c : Thread nD τ) none) E (cc1__sim_body i M1 h1 M2 h2 M3 h3 M4 h4 M5 h5) Q } := by
  refine ⟨(?_, ?_, ?_), fun f3 f4 f5 E Q => ?run⟩
  case run =>
    iintro ⟨H1, H2, H3, H4, H5, Hk⟩
    sl_exec!
    sl_step
    iapply Hk
    isplitl [H1]; · iexact H1
    isplitl [H2]; · iexact H2
    isplitl [H3]; · iexact H3
    isplitl [H4]; · iexact H4
    iexact H5

end Cert.Proof.KI

end
-- ==== Proof.KI.Bodies.lean ====
/-
  The normalisation kernel's body and the final selection kernel's body, run by the executor: what each leaves in its
  result blocks, as functions of its operand blocks.
-/
module

public import proofs.«01_k».proof.Proof.KI.SimBody
public import Idealize.ShloMosaic.Lib.Pipeline.ValueKit

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxHeartbeats 1000000 in
/-- The normalisation body: from both blocks held whole it runs to its return, the operand's as it was. -/
noncomputable def normRun (c : Dev nD) (M0 : Memref sig .tc .vmem S16384x64 .f32) (h0 : M0.IsWhole) (M1 : Memref sig .tc .vmem S16384x64 .f32) (h1 : M1.IsWhole)
    (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) 𝒱₀ (c : Thread nD τ) none) E (cc0__norm_body M0 h0 M1 h1) Q } := by
  refine ⟨?_, fun f1 E Q => ?run⟩
  case run =>
    iintro ⟨H0, H1, Hk⟩
    sl_exec!
    sl_step
    iapply Hk
    isplitl [H0]; · iexact H0
    iexact H1

set_option maxHeartbeats 4000000 in
/-- The final selection body: from the five blocks held whole it runs to its return, the operands' as they were. -/
noncomputable def topkRun (c : Dev nD) (i : grid3.Coords) (M1 : Memref sig .tc .vmem S10x128x128 .f32) (h1 : M1.IsWhole) (M2 : Memref sig .tc .vmem S128x10 .i32) (h2 : M2.IsWhole)
    (M3 : Memref sig .tc .vmem S128x10 .f32) (h3 : M3.IsWhole) (M4 : Memref sig .tc .vmem S128x10 .i32) (h4 : M4.IsWhole) (M5 : Memref sig .tc .vmem S128x10 .f32) (h5 : M5.IsWhole)
    (f1 : Bf (F := F) c M1) (f2 : Bf (F := F) c M2) :
    { W : Bf (F := F) c M3 × Bf (F := F) c M4 × Bf (F := F) c M5 // ∀ (f3 : Bf (F := F) c M3) (f4 : Bf (F := F) c M4) (f5 : Bf (F := F) c M5) (E : Set ℕ) (Q : PUnit → sProp 𝕄),
        iprop(pt c M1 f1 ∗ pt c M2 f2 ∗ pt c M3 f3 ∗ pt c M4 f4 ∗ pt c M5 f5 ∗ (iprop(pt c M1 f1 ∗ pt c M2 f2 ∗ pt c M3 W.1 ∗ pt c M4 W.2.1 ∗ pt c M5 W.2.2) -∗ Q ⟨⟩))
          ⊢ wp frame (wpE (defs₀ (F := F)) 𝒱₀ (c : Thread nD τ) none) E (cc3__topk_body i M1 h1 M2 h2 M3 h3 M4 h4 M5 h5) Q } := by
  refine ⟨(?_, ?_, ?_), fun f3 f4 f5 E Q => ?run⟩
  case run =>
    iintro ⟨H1, H2, H3, H4, H5, Hk⟩
    sl_exec!
    sl_step
    iapply Hk
    isplitl [H1]; · iexact H1
    isplitl [H2]; · iexact H2
    isplitl [H3]; · iexact H3
    isplitl [H4]; · iexact H4
    iexact H5

end Cert.Proof.KI

end
-- ==== Proof.KI.Dats.lean ====
/-
  The three TensorCore kernels as pipelines: what each holds at entry, what its body leaves in every block, and that
  the body run at a grid point takes the one to the other.
-/
module

public import proofs.«01_k».proof.Proof.KI.Bodies
public import Idealize.ShloMosaic.Lib.Pipeline.FrameBody
public import Idealize.ShloMosaic.Lib.Pipeline.RegionsLoop

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig (HIx 1) (Elt F) ℕ UU ℕ

/-- The one admissible table of each pipeline: there is none. -/
def adm : (p : Fin 3) → (pcfgs (F := F) p).Adm := fun p => (cfgs p).toPCfg_adm

/-- The wait pairs a TensorCore may have recorded before call `n`. -/
def recd (c : Dev nD) (n : ℕ) : Set (SemLoc sig × HIx 1) := {p | (K (F := F)).lev (SparseCore.T c, p.1) p.2 ≤ 8 * (SparseCore.Cfg.Blocks.fst (Q := 1) (N := 1) n)}

/-- A whole block owned at some contents is its buffer held at the one raw value that reads as them. -/
theorem owns_unread (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  rw [h.eq_unread hf]
  iexact H

/-- A whole buffer at its contents is owned at what is read through it. -/
theorem owns_of_pt (c : Dev nD) {sp : Space} {S : Shape} {e : EltTy} (M : Memref sig .tc sp S e) (h : M.IsWhole) (f : Bf (F := F) c M) (X : S.Idx → Elt F e)
    (hX : M.view.read (Elt F) f = X) : pt c M f ⊢ (owns (c : Thread nD τ) M fullShare X : sProp 𝕄) := by
  unfold owns
  rw [h.set_eq_univ]
  iintro H
  iexists f
  isplitr; · ipureintro; exact hX
  iexact H

variable (W : (c : Dev nD) → Valuation τ sig (Elt F))

/-! ## The normalisation -/

/-- The operand's block, as fetched. -/
abbrev stg0 (c : Dev nD) (t : Fin cfg0.N) : S16384x64.Idx → Elt F .f32 := ((cfg0.win 0).blk t).view.read (Elt F) (W c (Proc.devRef .tc main_arg0))

abbrev run0 (c : Dev nD) (t : Fin cfg0.N) :=
  normRun (F := F) c (st0_0 t) (stage_whole0 0 _) (st0_1 t) (stage_whole0 1 _) ((stage_whole0 0 (cfg0.slots t 0)).unread (stg0 W c t))

def dat0 (c : Dev nD) : Dat τ (Elt F) (HIx 1) ℕ UU ℕ cfg0 c where
  A w := W c (Proc.devRef .tc (Pipeline.arrRef spec0 w))
  after w t := match w with
    | ⟨0, _⟩ => stg0 W c t
    | ⟨1, _⟩ => (st0_1 t).view.read (Elt F) (run0 W c t).1
  Φ _ := Pipeline.scopedRest (Ix := HIx 1) (Name := ℕ) (U := UU) (Lvl := ℕ) (Val := Elt F) (Pipeline.pin (pcfgs (F := F)) adm 0).spec c
  q w := Pipeline.shareOf (Pipeline.pin (pcfgs (F := F)) adm 0).spec w
  owed _ := (K (F := F)).Otc c 0
  recorded _ := recd (F := F) c 0

/-- Before the normalising body its operand's staging buffer holds the fetched block. -/
theorem before0_0 (c : Dev nD) (t : Fin cfg0.N) (d) : (dat0 W c).before 0 t d = stg0 W c t := by
  unfold Dat.before; rw [if_pos (fetch0_0 t)]; rfl

/-- After the normalising body its result's staging buffer holds what the body wrote. -/
theorem after0_1 (c : Dev nD) (t : Fin cfg0.N) : (st0_1 t).view.read (Elt F) (run0 W c t).1 = (dat0 W c).after 1 t := by dsimp only [dat0]

/-- The normalising body does at every grid point what the pipeline asks of it. -/
theorem body0 (c : Dev nD) : BodyObligation (dat0 W c) (defs₀ (F := F)) 𝒱₀ none Set.univ := fun t => by
  rw [bigSep_W0, bigSep_W0]
  rw [show (dat0 W c).Φ t.succ = (dat0 W c).Φ t.castSucc from rfl,
    show (dat0 W c).owesAt none t.succ = (dat0 W c).owesAt none t.castSucc from rfl]
  iintro ⟨HΦ, Howes, ⟨%d0, H0⟩, ⟨%d1, H1⟩⟩
  ihave H0 := (owns_unread c _ (stage_whole0 0 _) _) $$ H0
  ihave H1 := (owns_unread c _ (stage_whole0 1 _) _) $$ H1
  rw [before0_0]
  iapply ((run0 W c t).2 _ Set.univ _)
  isplitl [H0]; · iexact H0
  isplitl [H1]; · iexact H1
  iintro ⟨H0, H1⟩
  isplitl [HΦ]; · iexact HΦ
  isplitl [Howes]; · iexact Howes
  isplitl [H0]
  · iapply (owns_of_pt c _ (stage_whole0 0 _) _ _ ((stage_whole0 0 _).read_unread _)); iexact H0
  iapply (owns_of_pt c _ (stage_whole0 1 _) _ _ (after0_1 W c t)); iexact H1

/-! ## The similarities -/

abbrev stg1_0 (c : Dev nD) (t : Fin cfg1.N) : S128x64.Idx → Elt F .f32 := ((cfg1.win 0).blk t).view.read (Elt F) (W c (Proc.devRef .tc main_v0))
abbrev stg1_1 (c : Dev nD) (t : Fin cfg1.N) : S16384x64.Idx → Elt F .f32 := ((cfg1.win 1).blk t).view.read (Elt F) (W c (Proc.devRef .tc main_v0))

abbrev run1 (c : Dev nD) (t : Fin cfg1.N) :=
  simRun (F := F) c (grid1.coords t) (st1_0 t) (stage_whole1 0 _) (st1_1 t) (stage_whole1 1 _) (st1_2 t) (stage_whole1 2 _) (st1_3 t) (stage_whole1 3 _) (st1_4 t) (stage_whole1 4 _)
    ((stage_whole1 0 (cfg1.slots t 0)).unread (stg1_0 W c t)) ((stage_whole1 1 (cfg1.slots t 1)).unread (stg1_1 W c t))

def dat1 (c : Dev nD) : Dat τ (Elt F) (HIx 1) ℕ UU ℕ cfg1 c where
  A w := W c (Proc.devRef .tc (Pipeline.arrRef spec1 w))
  after w t := match w with
    | ⟨0, _⟩ => stg1_0 W c t
    | ⟨1, _⟩ => stg1_1 W c t
    | ⟨2, _⟩ => (st1_2 t).view.read (Elt F) (run1 W c t).1.1
    | ⟨3, _⟩ => (st1_3 t).view.read (Elt F) (run1 W c t).1.2.1
    | ⟨4, _⟩ => (st1_4 t).view.read (Elt F) (run1 W c t).1.2.2
  Φ _ := Pipeline.scopedRest (Ix := HIx 1) (Name := ℕ) (U := UU) (Lvl := ℕ) (Val := Elt F) (Pipeline.pin (pcfgs (F := F)) adm 1).spec c
  q w := Pipeline.shareOf (Pipeline.pin (pcfgs (F := F)) adm 1).spec w
  owed _ := (K (F := F)).Otc c 0
  recorded _ := recd (F := F) c 0

/-- Before the similarity body the first operand's staging buffer holds its block of rows. -/
theorem before1_0 (c : Dev nD) (t : Fin cfg1.N) (d) : (dat1 W c).before 0 t d = stg1_0 W c t := by
  unfold Dat.before; rw [if_pos (fetch1_0 t)]; rfl

/-- Before the similarity body the second operand's staging buffer holds all the rows, fetched once. -/
theorem before1_1 (c : Dev nD) (t : Fin cfg1.N) (d) : (dat1 W c).before 1 t d = stg1_1 W c t :=
  by
  have h1 : ∀ i, cfg1.idle 1 i = false := fun _ => rfl
  have h2 : ∀ t t' : Fin cfg1.N, (cfg1.win 1).index t = (cfg1.win 1).index t' → (cfg1.win 1).clip (cfg1.grid.coords t) = (cfg1.win 1).clip (cfg1.grid.coords t') := by
    intro t t' _; rfl
  have h3 : ∀ t, (cfg1.win 1).cut (cfg1.grid.coords t) ((dat1 W c).after 1 t) = (dat1 W c).blockOf 1 t := fun t => rfl
  exact (dat1 W c).before_in_eq_fetched 1 rfl h1 h2 h3 t d

set_option maxHeartbeats 1000000 in
/-- The similarity body does at every grid point what the pipeline asks of it. -/
theorem body1 (c : Dev nD) : BodyObligation (dat1 W c) (defs₀ (F := F)) 𝒱₀ none Set.univ := fun t => by
  rw [bigSep_W1, bigSep_W1]
  rw [show (dat1 W c).Φ t.succ = (dat1 W c).Φ t.castSucc from rfl,
    show (dat1 W c).owesAt none t.succ = (dat1 W c).owesAt none t.castSucc from rfl]
  iintro ⟨HΦ, Howes, ⟨%d0, H0⟩, ⟨%d1, H1⟩, ⟨%d2, H2⟩, ⟨%d3, H3⟩, ⟨%d4, H4⟩⟩
  ihave H0 := (owns_unread c _ (stage_whole1 0 _) _) $$ H0
  ihave H1 := (owns_unread c _ (stage_whole1 1 _) _) $$ H1
  ihave H2 := (owns_unread c _ (stage_whole1 2 _) _) $$ H2
  ihave H3 := (owns_unread c _ (stage_whole1 3 _) _) $$ H3
  ihave H4 := (owns_unread c _ (stage_whole1 4 _) _) $$ H4
  rw [before1_0, before1_1]
  iapply ((run1 W c t).2 _ _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]
  · iapply (owns_of_pt c _ (stage_whole1 0 _) _ _ ((stage_whole1 0 _).read_unread _)); iexact H0
  isplitl [H1]
  · iapply (owns_of_pt c _ (stage_whole1 1 _) _ _ ((stage_whole1 1 _).read_unread _)); iexact H1
  isplitl [H2]
  · iapply (owns_of_pt c _ (stage_whole1 2 _) _ _ rfl); iexact H2
  isplitl [H3]
  · iapply (owns_of_pt c _ (stage_whole1 3 _) _ _ rfl); iexact H3
  iapply (owns_of_pt c _ (stage_whole1 4 _) _ _ rfl); iexact H4

/-! ## The final selection -/

abbrev stg3_0 (c : Dev nD) (t : Fin cfg3.N) : S10x128x128.Idx → Elt F .f32 := ((cfg3.win 0).blk t).view.read (Elt F) (W c (Proc.devRef .tc main_v9))
abbrev stg3_1 (c : Dev nD) (t : Fin cfg3.N) : S128x10.Idx → Elt F .i32 := ((cfg3.win 1).blk t).view.read (Elt F) (W c (Proc.devRef .tc main_v1_1))

abbrev run3 (c : Dev nD) (t : Fin cfg3.N) :=
  topkRun (F := F) c (grid3.coords t) (st3_0 t) (stage_whole3 0 _) (st3_1 t) (stage_whole3 1 _) (st3_2 t) (stage_whole3 2 _) (st3_3 t) (stage_whole3 3 _) (st3_4 t) (stage_whole3 4 _)
    ((stage_whole3 0 (cfg3.slots t 0)).unread (stg3_0 W c t)) ((stage_whole3 1 (cfg3.slots t 1)).unread (stg3_1 W c t))

def dat3 (c : Dev nD) : Dat τ (Elt F) (HIx 1) ℕ UU ℕ cfg3 c where
  A w := W c (Proc.devRef .tc (Pipeline.arrRef spec3 w))
  after w t := match w with
    | ⟨0, _⟩ => stg3_0 W c t
    | ⟨1, _⟩ => stg3_1 W c t
    | ⟨2, _⟩ => (st3_2 t).view.read (Elt F) (run3 W c t).1.1
    | ⟨3, _⟩ => (st3_3 t).view.read (Elt F) (run3 W c t).1.2.1
    | ⟨4, _⟩ => (st3_4 t).view.read (Elt F) (run3 W c t).1.2.2
  Φ _ := Pipeline.scopedRest (Ix := HIx 1) (Name := ℕ) (U := UU) (Lvl := ℕ) (Val := Elt F) (Pipeline.pin (pcfgs (F := F)) adm 2).spec c
  q w := Pipeline.shareOf (Pipeline.pin (pcfgs (F := F)) adm 2).spec w
  owed _ := (K (F := F)).Otc c 1
  recorded _ := recd (F := F) c 1

/-- Before the selecting body the first operand's staging buffer holds the block's gathered chunks. -/
theorem before3_0 (c : Dev nD) (t : Fin cfg3.N) (d) : (dat3 W c).before 0 t d = stg3_0 W c t := by
  unfold Dat.before; rw [if_pos (fetch3_0 t)]; rfl

/-- Before the selecting body the second operand's staging buffer holds the block's chunk numbers. -/
theorem before3_1 (c : Dev nD) (t : Fin cfg3.N) (d) : (dat3 W c).before 1 t d = stg3_1 W c t := by
  unfold Dat.before; rw [if_pos (fetch3_1 t)]; rfl

set_option maxHeartbeats 1000000 in
/-- The selecting body does at every grid point what the pipeline asks of it. -/
theorem body3 (c : Dev nD) : BodyObligation (dat3 W c) (defs₀ (F := F)) 𝒱₀ none Set.univ := fun t => by
  rw [bigSep_W3, bigSep_W3]
  rw [show (dat3 W c).Φ t.succ = (dat3 W c).Φ t.castSucc from rfl,
    show (dat3 W c).owesAt none t.succ = (dat3 W c).owesAt none t.castSucc from rfl]
  iintro ⟨HΦ, Howes, ⟨%d0, H0⟩, ⟨%d1, H1⟩, ⟨%d2, H2⟩, ⟨%d3, H3⟩, ⟨%d4, H4⟩⟩
  ihave H0 := (owns_unread c _ (stage_whole3 0 _) _) $$ H0
  ihave H1 := (owns_unread c _ (stage_whole3 1 _) _) $$ H1
  ihave H2 := (owns_unread c _ (stage_whole3 2 _) _) $$ H2
  ihave H3 := (owns_unread c _ (stage_whole3 3 _) _) $$ H3
  ihave H4 := (owns_unread c _ (stage_whole3 4 _) _) $$ H4
  rw [before3_0, before3_1]
  iapply ((run3 W c t).2 _ _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]
  · iapply (owns_of_pt c _ (stage_whole3 0 _) _ _ ((stage_whole3 0 _).read_unread _)); iexact H0
  isplitl [H1]
  · iapply (owns_of_pt c _ (stage_whole3 1 _) _ _ ((stage_whole3 1 _).read_unread _)); iexact H1
  isplitl [H2]
  · iapply (owns_of_pt c _ (stage_whole3 2 _) _ _ rfl); iexact H2
  isplitl [H3]
  · iapply (owns_of_pt c _ (stage_whole3 3 _) _ _ rfl); iexact H3
  iapply (owns_of_pt c _ (stage_whole3 4 _) _ _ rfl); iexact H4

end Cert.Proof.KI

end
-- ==== Proof.KI.Region.lean ====
/-
  Each TensorCore kernel's region of @main: from every unscoped buffer at one valuation, and the core's debts to the
  SparseCore call, to the same with the kernel's result arrays at what it wrote.
-/
module

public import proofs.«01_k».proof.Proof.KI.Dats

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig (HIx 1) (Elt F) ℕ UU ℕ

abbrev Vals (F : FTy → Type) : Type := Valuation τ sig (Elt F)

/-- A valuation with one TensorCore buffer at new contents. -/
def setW (V : Vals F) (y : Ref sig .tc) (v : (Proc.devRef (τ := τ) .tc y).ty.Contents (Elt F)) : Vals F := Function.update V (Proc.devRef .tc y) v

/-- A buffer that was set holds what it was set to. -/
theorem setW_self (V : Vals F) (y : Ref sig .tc) (v) : setW V y v (Proc.devRef .tc y) = v := Function.update_self _ _ _
/-- Setting one buffer leaves the others. -/
theorem setW_ne (V : Vals F) (y : Ref sig .tc) (v) {r : Ref sig .tc} (h : r ≠ y) : setW V y v (Proc.devRef .tc r) = V (Proc.devRef .tc r) :=
  Function.update_of_ne (StableHlo.devRef_ne_of_ne h) _ _

/-- Every unscoped buffer at a valuation, and what the core owes the calls from `n` on. -/
def tcAt (n : ℕ) (V : (c : Dev nD) → Vals F) (c : Dev nD) : sProp 𝕄 :=
  iprop(unscopedBufs c (fun b => V c (Proc.devRef .tc b)) ∗ ∃ R, ⌜(K (F := F)).WBelow (SparseCore.T c) R (8 * SparseCore.Cfg.Blocks.fst (Q := 1) (N := 1) n)⌝ ∗ owes (SparseCore.T c) ((K (F := F)).Otc c n) R)

/-- The proof data of the three pipelines, each at its own entry valuation. -/
def dats (W0 W1 W3 : (c : Dev nD) → Vals F) : (p : Fin 3) → (c : Dev nD) → Dat τ (Elt F) (HIx 1) ℕ UU ℕ (Pipeline.pin (pcfgs (F := F)) adm p) c
  | ⟨0, _⟩ => fun c => dat0 W0 c
  | ⟨1, _⟩ => fun c => dat1 W1 c
  | ⟨2, _⟩ => fun c => dat3 W3 c

/-- The host owes nothing at the level of the local waits. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  simp [SparseCore.Cfg.lev] at this

section Seg

variable (W0 W1 W3 : (c : Dev nD) → Vals F) (p : Fin 3) (n : ℕ) (V V' : (c : Dev nD) → Vals F)

-- the region's statements are over the pinned configuration, which unfolds to the printed one
set_option backward.isDefEq.respectTransparency.types false in
/-- One region's record, from what its pipeline's layout and proof data are. -/
def seg (hwin : Pipeline.WinFacts₀ (Pipeline.pin (pcfgs (F := F)) adm p).spec) (hsh : Pipeline.SharedIn (Pipeline.pin (pcfgs (F := F)) adm p).spec)
    (harr : ∀ w, ((Pipeline.pin (pcfgs (F := F)) adm p).spec w).arr.IsWhole)
    (hpos : ∀ w, 0 < ((Pipeline.pin (pcfgs (F := F)) adm p).spec w).block.numel)
    (hst : ∀ w s, (((Pipeline.pin (pcfgs (F := F)) adm p).spec w).stage s).IsWhole)
    (hbody : ∀ c, BodyObligation (dats W0 W1 W3 p c) (defs₀ (F := F)) 𝒱₀ none Set.univ)
    (howed : ∀ c t, (dats W0 W1 W3 p c).owed t = (K (F := F)).Otc c n)
    (hrec : ∀ c t, (dats W0 W1 W3 p c).recorded t = recd (F := F) c n)
    (hΦ : ∀ c t, (dats W0 W1 W3 p c).Φ t = Pipeline.scopedRest (Ix := HIx 1) (Name := ℕ) (U := UU) (Lvl := ℕ) (Val := Elt F) (Pipeline.pin (pcfgs (F := F)) adm p).spec c)
    (hq : ∀ c w, ((Pipeline.pin (pcfgs (F := F)) adm p).spec w).isOut = false → (dats W0 W1 W3 p c).q w = Pipeline.shareOf (Pipeline.pin (pcfgs (F := F)) adm p).spec w)
    (hA : ∀ c w, (dats W0 W1 W3 p c).A w = V c (Proc.devRef .tc (Pipeline.arrRef (Pipeline.pin (pcfgs (F := F)) adm p).spec w)))
    (hF : ∀ c w, (dats W0 W1 W3 p c).arrAt w (Pipeline.pin (pcfgs (F := F)) adm p).N = V' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) → V' c (Proc.devRef .tc b) = V c (Proc.devRef .tc b))
    (hpre : ∀ c, (iprop(emp) : sProp 𝕄) ⊢ Pipeline.prefHeld (pcfgs (F := F) p).pre c (fun _ => fullShare) (adm (F := F) p).1) :
    Pipeline.RegionSeg (pcfgs (F := F)) adm (dats W0 W1 W3) none defs₀ 𝒱₀ (K (F := F)).L (K (F := F)).lev p where
  win := hwin
  block_pos := hpos
  stage_whole := hst
  K := PEmpty
  osem k := k.elim
  ho := Pipeline.OwnSemFacts.none _
  hbody c := (hbody c).loose
  hwaits c := Pipeline.cellsWaits_intro _ _ none p c fun w s t => by
    rw [howed c t]
    exact (K (F := F)).mayWait_none _ (Otc_none c n)
  pre := tcAt n V
  post := tcAt n V'
  X _ := BI.emp
  Y _ := BI.emp
  Z c := Pipeline.unscopedRest (Ix := HIx 1) (Name := ℕ) (U := UU) (Lvl := ℕ) (Pipeline.pin (pcfgs (F := F)) adm p).spec c (fun b => V c (Proc.devRef .tc b))
  hentry c := by
    rw [Pipeline.ownSems0_none]
    have hsplit := Pipeline.arrays_of_unscopedBufs_shared (p := p) (pcfgs (F := F)) adm (dats W0 W1 W3) hwin hsh harr c (hq c) (fun b => V c (Proc.devRef .tc b)) (hA c)
    unfold tcAt
    iintro ⟨⟨Hub, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      icases HO with ⟨%R, %hR, HO⟩
      iexists R
      isplitr
      · ipureintro
        intro q hq'
        exact Or.inl (by rw [hrec c 0]; exact hR q hq')
      rw [howed c 0]
      iexact HO
    isplitr; · iempintro
    iexact Hrest
  hin c := by
    rw [hΦ c 0]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays_shared (p := p) (pcfgs (F := F)) adm (Ix := HIx 1) (Name := ℕ) (U := UU) (Lvl := ℕ) hwin hsh harr c
      (dats W0 W1 W3) (hq c) (fun b => V c (Proc.devRef .tc b)) (fun b => V' c (Proc.devRef .tc b)) _ (hF c) (hrest c)
    unfold tcAt
    iintro ⟨Ha, HO, -, Hrest⟩
    imodintro
    isplitl [Ha Hrest]
    · iapply hjoin; isplitl [Ha] <;> iassumption
    unfold Pipeline.Dat.owesAt Pipeline.owesWithin
    icases HO with ⟨%R, %hR, HO⟩
    iexists R
    isplitr
    · ipureintro
      intro q hq'
      rcases hR hq' with h | ⟨w, s, h⟩
      · rw [hrec c] at h; exact h
      · rw [h]; exact Nat.zero_le _
    rw [howed c]
    iexact HO

end Seg

end Cert.Proof.KI

end
-- ==== Proof.KI.Vals.lean ====
/-
  The buffers of the program at every stage of @main, as functions of the launch memory: what the three TensorCore
  kernels, the SparseCore call and the host operations between them leave.
-/
module

public import proofs.«01_k».proof.Proof.KI.Region

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig (HIx 1) (Elt F) ℕ UU ℕ

/-- The operations between the similarities and the SparseCore call: the table reshaped, the rows clamped, transposed and reshaped. -/
def ops1 : List (HloOp τ sig (Elt F)) := [
  StableHlo.reshape main_v1_0 main_v2 (rfl : (.f32 : EltTy) = .f32) shapeCasts_S128x16384x128_S2097152x128,
  StableHlo.nullary main_c (constantI S_ 32 0#32),
  StableHlo.nullary main_c_0 (constantI S_ 32 2097151#32),
  StableHlo.unary main_c main_v3 (broadcastInDim S16384x10 ![] bcast_S_S16384x10 : (⟨S_, .i32⟩ : BufTy).Contents (Elt F) → (⟨S16384x10, .i32⟩ : BufTy).Contents (Elt F)),
  StableHlo.unary main_c_0 main_v4 (broadcastInDim S16384x10 ![] bcast_S_S16384x10 : (⟨S_, .i32⟩ : BufTy).Contents (Elt F) → (⟨S16384x10, .i32⟩ : BufTy).Contents (Elt F)),
  StableHlo.ternary main_v3 main_v1_2 main_v4 main_v5 ((fun lo x hi => minsi (maxsi x lo) hi) : (⟨S16384x10, .i32⟩ : BufTy).Contents (Elt F) → (⟨S16384x10, .i32⟩ : BufTy).Contents (Elt F) → (⟨S16384x10, .i32⟩ : BufTy).Contents (Elt F) → (⟨S16384x10, .i32⟩ : BufTy).Contents (Elt F)),
  StableHlo.unary main_v5 main_v6 ((transpose S10x16384 [1, 0] · transposes_S16384x10_S10x16384_1_0) : (⟨S16384x10, .i32⟩ : BufTy).Contents (Elt F) → (⟨S10x16384, .i32⟩ : BufTy).Contents (Elt F)),
  StableHlo.reshape main_v6 main_v7 (rfl : (.i32 : EltTy) = .i32) shapeCasts_S10x16384_S1280x128]

/-- The one between the SparseCore call and the final selection. -/
def ops2 : List (HloOp τ sig (Elt F)) := [
  StableHlo.reshape main_v8 main_v9 (rfl : (.f32 : EltTy) = .f32) shapeCasts_S163840x128_S10x16384x128]

/-- The ones that lay out the results. -/
def ops3 : List (HloOp τ sig (Elt F)) := [
  StableHlo.nullary main_v11 (iotaInDim S16384 32 0),
  StableHlo.unary main_v11 main_v12 (broadcastInDim S16384x10 ![0] bcast_S16384_S16384x10_0 : (⟨S16384, .i32⟩ : BufTy).Contents (Elt F) → (⟨S16384x10, .i32⟩ : BufTy).Contents (Elt F)),
  StableHlo.reshape main_v12 main_v13 (rfl : (.i32 : EltTy) = .i32) shapeCasts_S16384x10_S163840,
  StableHlo.reshape main_v10_1 main_v14 (rfl : (.i32 : EltTy) = .i32) shapeCasts_S16384x10_S163840,
  StableHlo.unary main_v13 main_v15 (broadcastInDim S1x163840 ![1] bcast_S163840_S1x163840_1 : (⟨S163840, .i32⟩ : BufTy).Contents (Elt F) → (⟨S1x163840, .i32⟩ : BufTy).Contents (Elt F)),
  StableHlo.unary main_v14 main_v16 (broadcastInDim S1x163840 ![1] bcast_S163840_S1x163840_1 : (⟨S163840, .i32⟩ : BufTy).Contents (Elt F) → (⟨S1x163840, .i32⟩ : BufTy).Contents (Elt F)),
  StableHlo.binary main_v15 main_v16 main_v17 ((fun a b => concatenate S2x163840 0 [⟨S1x163840, a⟩, ⟨S1x163840, b⟩] concatenates_S1x163840_S1x163840_S2x163840_d0) : (⟨S1x163840, .i32⟩ : BufTy).Contents (Elt F) → (⟨S1x163840, .i32⟩ : BufTy).Contents (Elt F) → (⟨S2x163840, .i32⟩ : BufTy).Contents (Elt F)),
  StableHlo.reshape main_v10_2 main_v18 (rfl : (.f32 : EltTy) = .f32) shapeCasts_S16384x10_S163840]

variable (m : (ℓ : Loc nD τ sig) → Buf (Elt F) ℓ)

/-- At launch. -/
def V0 (c : Dev nD) : Vals F := fun b => m (c, b)
/-- After the normalisation. -/
def V1 (c : Dev nD) : Vals F := setW (V0 m c) main_v0 ((dat0 (V0 m) c).arrAt 1 cfg0.N)
/-- After the similarities. -/
def V2 (c : Dev nD) : Vals F :=
  setW (setW (setW (V1 m c) main_v1_0 ((dat1 (V1 m) c).arrAt 2 cfg1.N)) main_v1_1 ((dat1 (V1 m) c).arrAt 3 cfg1.N)) main_v1_2 ((dat1 (V1 m) c).arrAt 4 cfg1.N)
/-- Before the SparseCore call. -/
def V3 (c : Dev nD) : Vals F := StableHlo.after ops1 (V2 m c)
/-- The table, the list of rows and the result's buffer that the call finds. -/
def tbv (c : Dev nD) : S2097152x128.Idx → Elt F .f32 := V3 m c (Proc.devRef .tc main_v2)
def ixv (c : Dev nD) : S1280x128.Idx → BitVec 32 := V3 m c (Proc.devRef .tc main_v7)
def ov (c : Dev nD) : S163840x128.Idx → Elt F .f32 := V3 m c (Proc.devRef .tc main_v8)
/-- After the SparseCore call. -/
def V4 (c : Dev nD) : Vals F := setW (V3 m c) main_v8 (gathered (tbv m c) (ixv m c))
/-- Before the final selection. -/
def V5 (c : Dev nD) : Vals F := StableHlo.after ops2 (V4 m c)
/-- After it. -/
def V6 (c : Dev nD) : Vals F :=
  setW (setW (setW (V5 m c) main_v10_0 ((dat3 (V5 m) c).arrAt 2 cfg3.N)) main_v10_1 ((dat3 (V5 m) c).arrAt 3 cfg3.N)) main_v10_2 ((dat3 (V5 m) c).arrAt 4 cfg3.N)
/-- At the end. -/
def V7 (c : Dev nD) : Vals F := StableHlo.after ops3 (V6 m c)

/-- The proof data of the three pipelines at this memory. -/
abbrev datsM := dats (V0 m) (V1 m) (V5 m)

/-- No pipeline has a prefetched operand. -/
theorem pre_none (p : Fin 3) (c : Dev nD) : (iprop(emp) : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]
  iintro H; iexact H

/-- The normalising call's operands are read only. -/
theorem sharedIn0 : Pipeline.SharedIn spec0 := by decide
/-- The selecting call's operands are read only. -/
theorem sharedIn3 : Pipeline.SharedIn spec3 := by decide

set_option backward.isDefEq.respectTransparency.types false in
/-- The shares that call 1's data take are the pipeline's own. -/
theorem q_1 (W0 W1 W3 : (c : Dev nD) → Vals F) (c : Dev nD) (w) :
    (dats W0 W1 W3 1 c).q w = Pipeline.shareOf (Pipeline.pin (pcfgs (F := F)) adm 1).spec w := by
  show (dat1 W1 c).q w = _
  unfold dat1
  with_reducible rfl

set_option backward.isDefEq.respectTransparency.types false in
/-- The shares that call 2's data take are the pipeline's own. -/
theorem q_2 (W0 W1 W3 : (c : Dev nD) → Vals F) (c : Dev nD) (w) :
    (dats W0 W1 W3 2 c).q w = Pipeline.shareOf (Pipeline.pin (pcfgs (F := F)) adm 2).spec w := by
  show (dat3 W3 c).q w = _
  unfold dat3
  with_reducible rfl

set_option backward.isDefEq.respectTransparency.types false in
/-- What call 1's data keep aside is the pipeline's remaining scoped memory. -/
theorem Phi_1 (W0 W1 W3 : (c : Dev nD) → Vals F) (c : Dev nD) (t) :
    (dats W0 W1 W3 1 c).Φ t = Pipeline.scopedRest (Ix := HIx 1) (Name := ℕ) (U := UU) (Lvl := ℕ) (Val := Elt F) (Pipeline.pin (pcfgs (F := F)) adm 1).spec c := by
  show (dat1 W1 c).Φ t = _
  unfold dat1
  with_reducible rfl

set_option backward.isDefEq.respectTransparency.types false in
/-- What call 2's data keep aside is the pipeline's remaining scoped memory. -/
theorem Phi_2 (W0 W1 W3 : (c : Dev nD) → Vals F) (c : Dev nD) (t) :
    (dats W0 W1 W3 2 c).Φ t = Pipeline.scopedRest (Ix := HIx 1) (Name := ℕ) (U := UU) (Lvl := ℕ) (Val := Elt F) (Pipeline.pin (pcfgs (F := F)) adm 2).spec c := by
  show (dat3 W3 c).Φ t = _
  unfold dat3
  with_reducible rfl

/-- What call 1's arrays hold at its entry. -/
theorem A1 (W : (c : Dev nD) → Vals F) (c : Dev nD) (w) : (dat1 W c).A w = W c (Proc.devRef .tc (Pipeline.arrRef spec1 w)) := by
  unfold dat1
  with_reducible rfl

/-- The similarity call leaves every buffer but its three results. -/
theorem V2_ne (c : Dev nD) {r : Ref sig .tc} (h0 : r ≠ main_v1_0) (h1 : r ≠ main_v1_1) (h2 : r ≠ main_v1_2) :
    V2 m c (Proc.devRef .tc r) = V1 m c (Proc.devRef .tc r) := by
  unfold V2
  exact (setW_ne _ main_v1_2 _ h2).trans ((setW_ne _ main_v1_1 _ h1).trans (setW_ne _ main_v1_0 _ h0))
/-- After the similarity call its first result is the array that its grid wrote. -/
theorem V2_out0 (c : Dev nD) : V2 m c (Proc.devRef .tc main_v1_0) = ((dat1 (V1 m) c).arrAt 2 cfg1.N) := by
  unfold V2
  exact (setW_ne _ main_v1_2 _ (r := main_v1_0) (by decide)).trans ((setW_ne _ main_v1_1 _ (r := main_v1_0) (by decide)).trans (setW_self _ _ _))
/-- After the similarity call its second result is the array that its grid wrote. -/
theorem V2_out1 (c : Dev nD) : V2 m c (Proc.devRef .tc main_v1_1) = ((dat1 (V1 m) c).arrAt 3 cfg1.N) := by
  unfold V2
  exact (setW_ne _ main_v1_2 _ (r := main_v1_1) (by decide)).trans (setW_self _ _ _)
/-- After the similarity call its third result is the array that its grid wrote. -/
theorem V2_out2 (c : Dev nD) : V2 m c (Proc.devRef .tc main_v1_2) = ((dat1 (V1 m) c).arrAt 4 cfg1.N) := by
  unfold V2
  exact setW_self _ _ _
/-- The similarity call leaves its first operand. -/
theorem V2_in0 (c : Dev nD) : (dat1 (V1 m) c).arrAt 0 cfg1.N = V2 m c (Proc.devRef .tc main_v0) :=
  ((dat1 (V1 m) c).arrAt_in 0 (by decide) _).trans ((A1 (V1 m) c 0).trans (V2_ne m c (r := main_v0) (by decide) (by decide) (by decide)).symm)
/-- The similarity call leaves its second operand. -/
theorem V2_in1 (c : Dev nD) : (dat1 (V1 m) c).arrAt 1 cfg1.N = V2 m c (Proc.devRef .tc main_v0) :=
  ((dat1 (V1 m) c).arrAt_in 1 (by decide) _).trans ((A1 (V1 m) c 1).trans (V2_ne m c (r := main_v0) (by decide) (by decide) (by decide)).symm)

/-- The selecting call leaves every buffer but its three results. -/
theorem V6_ne (c : Dev nD) {r : Ref sig .tc} (h0 : r ≠ main_v10_0) (h1 : r ≠ main_v10_1) (h2 : r ≠ main_v10_2) :
    V6 m c (Proc.devRef .tc r) = V5 m c (Proc.devRef .tc r) := by
  unfold V6
  exact (setW_ne _ main_v10_2 _ h2).trans ((setW_ne _ main_v10_1 _ h1).trans (setW_ne _ main_v10_0 _ h0))
/-- After the selecting call its first result is the array that its grid wrote. -/
theorem V6_out0 (c : Dev nD) : V6 m c (Proc.devRef .tc main_v10_0) = ((dat3 (V5 m) c).arrAt 2 cfg3.N) := by
  unfold V6
  exact (setW_ne _ main_v10_2 _ (r := main_v10_0) (by decide)).trans ((setW_ne _ main_v10_1 _ (r := main_v10_0) (by decide)).trans (setW_self _ _ _))
/-- After the selecting call its second result is the array that its grid wrote. -/
theorem V6_out1 (c : Dev nD) : V6 m c (Proc.devRef .tc main_v10_1) = ((dat3 (V5 m) c).arrAt 3 cfg3.N) := by
  unfold V6
  exact (setW_ne _ main_v10_2 _ (r := main_v10_1) (by decide)).trans (setW_self _ _ _)
/-- After the selecting call its third result is the array that its grid wrote. -/
theorem V6_out2 (c : Dev nD) : V6 m c (Proc.devRef .tc main_v10_2) = ((dat3 (V5 m) c).arrAt 4 cfg3.N) := by
  unfold V6
  exact setW_self _ _ _
/-- The selecting call leaves its first operand. -/
theorem V6_in0 (c : Dev nD) : (dat3 (V5 m) c).arrAt 0 cfg3.N = V6 m c (Proc.devRef .tc main_v9) :=
  ((dat3 (V5 m) c).arrAt_in 0 rfl _).trans (V6_ne m c (r := main_v9) (by decide) (by decide) (by decide)).symm
/-- The selecting call leaves its second operand. -/
theorem V6_in1 (c : Dev nD) : (dat3 (V5 m) c).arrAt 1 cfg3.N = V6 m c (Proc.devRef .tc main_v1_1) :=
  ((dat3 (V5 m) c).arrAt_in 1 rfl _).trans (V6_ne m c (r := main_v1_1) (by decide) (by decide) (by decide)).symm

/-- The normalising call leaves every buffer but its result. -/
theorem V1_ne (c : Dev nD) {r : Ref sig .tc} (h : r ≠ main_v0) : V1 m c (Proc.devRef .tc r) = V0 m c (Proc.devRef .tc r) := setW_ne _ main_v0 _ h
/-- After the normalising call its result is the array that it wrote. -/
theorem V1_out (c : Dev nD) : V1 m c (Proc.devRef .tc main_v0) = (dat0 (V0 m) c).arrAt 1 cfg0.N := setW_self _ _ _
/-- The normalising call leaves its operand. -/
theorem V1_in (c : Dev nD) : (dat0 (V0 m) c).arrAt 0 cfg0.N = V1 m c (Proc.devRef .tc main_arg0) :=
  ((dat0 (V0 m) c).arrAt_in 0 rfl _).trans (V1_ne m c (r := main_arg0) (by decide)).symm

/-- The arrays of the similarity call. -/
theorem arrs1 : Finset.univ.image (Pipeline.arrRef spec1) = {main_v0, main_v1_0, main_v1_1, main_v1_2} := by decide
/-- The arrays of the selecting call. -/
theorem arrs3 : Finset.univ.image (Pipeline.arrRef spec3) = {main_v9, main_v1_1, main_v10_0, main_v10_1, main_v10_2} := by decide
/-- The similarity call leaves every buffer that is none of its arrays. -/
theorem V2_rest (c : Dev nD) (b : Ref sig .tc) (hb : b ∉ Finset.univ.image (Pipeline.arrRef spec1)) :
    V2 m c (Proc.devRef .tc b) = V1 m c (Proc.devRef .tc b) := by
  rw [arrs1] at hb
  simp only [Finset.mem_insert, Finset.mem_singleton, not_or] at hb
  exact V2_ne m c hb.2.1 hb.2.2.1 hb.2.2.2
/-- The selecting call leaves every buffer that is none of its arrays. -/
theorem V6_rest (c : Dev nD) (b : Ref sig .tc) (hb : b ∉ Finset.univ.image (Pipeline.arrRef spec3)) :
    V6 m c (Proc.devRef .tc b) = V5 m c (Proc.devRef .tc b) := by
  rw [arrs3] at hb
  simp only [Finset.mem_insert, Finset.mem_singleton, not_or] at hb
  exact V6_ne m c hb.2.2.1 hb.2.2.2.1 hb.2.2.2.2

set_option backward.isDefEq.respectTransparency.types false in
/-- The normalisation's region. -/
def seg0 : Pipeline.RegionSeg (pcfgs (F := F)) adm (datsM m) none defs₀ 𝒱₀ (K (F := F)).L (K (F := F)).lev 0 :=
  seg (V0 m) (V1 m) (V5 m) 0 0 (V0 m) (V1 m) winFacts0.to₀ sharedIn0 arr_whole0 block_pos0 stage_whole0 (body0 (V0 m))
    (fun _ _ => rfl) (fun _ _ => rfl) (fun _ _ => rfl) (fun _ _ _ => rfl) (fun _ _ => rfl)
    (fun c w => match w with | ⟨0, _⟩ => V1_in m c | ⟨1, _⟩ => (V1_out m c).symm)
    (fun c b hb => V1_ne m c fun h => hb (h ▸ Finset.mem_image.mpr ⟨1, Finset.mem_univ _, rfl⟩))
    (pre_none 0)

set_option backward.isDefEq.respectTransparency.types false in
/-- The similarities' region. -/
def seg1 : Pipeline.RegionSeg (pcfgs (F := F)) adm (datsM m) none defs₀ 𝒱₀ (K (F := F)).L (K (F := F)).lev 1 :=
  seg (V0 m) (V1 m) (V5 m) 1 0 (V1 m) (V2 m) winFacts₀1 sharedIn1 arr_whole1 block_pos1 stage_whole1 (body1 (V1 m))
    (fun _ _ => rfl) (fun _ _ => rfl) (Phi_1 (V0 m) (V1 m) (V5 m)) (fun c w _ => q_1 (V0 m) (V1 m) (V5 m) c w) (fun _ _ => rfl)
    (fun c w => match w with | ⟨0, _⟩ => V2_in0 m c | ⟨1, _⟩ => V2_in1 m c | ⟨2, _⟩ => (V2_out0 m c).symm | ⟨3, _⟩ => (V2_out1 m c).symm | ⟨4, _⟩ => (V2_out2 m c).symm)
    (fun c b hb => V2_rest m c b hb)
    (pre_none 1)

set_option backward.isDefEq.respectTransparency.types false in
/-- The final selection's region. -/
def seg3 : Pipeline.RegionSeg (pcfgs (F := F)) adm (datsM m) none defs₀ 𝒱₀ (K (F := F)).L (K (F := F)).lev 2 :=
  seg (V0 m) (V1 m) (V5 m) 2 1 (V5 m) (V6 m) winFacts3.to₀ sharedIn3 arr_whole3 block_pos3 stage_whole3 (body3 (V5 m))
    (fun _ _ => rfl) (fun _ _ => rfl) (Phi_2 (V0 m) (V1 m) (V5 m)) (fun c w _ => q_2 (V0 m) (V1 m) (V5 m) c w) (fun _ _ => rfl)
    (fun c w => match w with | ⟨0, _⟩ => V6_in0 m c | ⟨1, _⟩ => V6_in1 m c | ⟨2, _⟩ => (V6_out0 m c).symm | ⟨3, _⟩ => (V6_out1 m c).symm | ⟨4, _⟩ => (V6_out2 m c).symm)
    (fun c b hb => V6_rest m c b hb)
    (pre_none 2)

end Cert.Proof.KI

end
-- ==== Proof.KI.Call.lean ====
/-
  The SparseCore call's payload against the TensorCore's buffers: the table, the list of rows and the result, dealt
  to the 32 tiles and taken back.
-/
module

public import proofs.«01_k».proof.Proof.KI.Setup
public import Idealize.ShloMosaic.Lib.Pipeline.Frame

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (tb : Dev nD → S2097152x128.Idx → Elt F .f32) (ix : Dev nD → S1280x128.Idx → BitVec 32) (o0 : Dev nD → S163840x128.Idx → Elt F .f32)

/-- The tiles are numbered one by one. -/
def widE : Fin 2 × Fin 16 ≃ Fin 32 := Equiv.ofBijective (fun p => wid p.1 p.2) (by decide)

/-- Two tiles write no row in common. -/
theorem oset_disjoint : ∀ t ∈ (Finset.univ : Finset (Fin 32)), ∀ t' ∈ (Finset.univ : Finset (Fin 32)), t ≠ t' → Disjoint (oset t) (oset t') := by
  intro t _ t' _ h
  rw [Finset.disjoint_left]
  intro x hx hx'
  rw [mem_oset] at hx hx'
  exact h (Fin.ext (by omega))

/-- The tiles' rows are all the rows of the result. -/
theorem oset_cover : (Finset.univ : Finset (Fin 32)).biUnion oset = Finset.univ := by
  ext x
  simp only [Finset.mem_biUnion, Finset.mem_univ, true_and, iff_true]
  have hx : (x 0).val < 163840 := (x 0).isLt
  exact ⟨⟨(x 0).val / 5120, by omega⟩, mem_oset.mpr ⟨by show 5120 * ((x 0).val / 5120) ≤ _; omega, by show _ < 5120 * ((x 0).val / 5120) + 5120; omega⟩⟩

/-- The three buffers, whole, are what the 32 tiles take of them. -/
theorem deal (d : Dev nD) (f : S163840x128.Idx → Elt F .f32) :
    (bigSep Finset.univ fun w : Fin 32 => (iprop(tPts tb d w ∗ xPts ix d w ∗ oPts d w f) : sProp 𝕄))
      = iprop((tLoc d ↦{fullShare} (tb d : Buf (Elt F) (tLoc d))) ∗ (xLoc d ↦{fullShare} (ix d : Buf (Elt F) (xLoc d))) ∗ oLoc d ↦{fullShare} (f : Buf (Elt F) (oLoc d))) := by
  rw [bigSep_sep', bigSep_sep']
  have h1 : (tLoc d ↦{fullShare} (tb d : Buf (Elt F) (tLoc d)) : sProp 𝕄) = bigSep Finset.univ fun w : Fin 32 => tPts tb d w :=
    ShareLeaves.pointsTo_leaves Finset.univ _ 5 fullShare
  have h2 : (xLoc d ↦{fullShare} (ix d : Buf (Elt F) (xLoc d)) : sProp 𝕄) = bigSep Finset.univ fun w : Fin 32 => xPts ix d w :=
    ShareLeaves.pointsTo_leaves Finset.univ _ 5 fullShare
  have h3 : (oLoc d ↦{fullShare} (f : Buf (Elt F) (oLoc d)) : sProp 𝕄) = bigSep Finset.univ fun w : Fin 32 => oPts d w f := by
    rw [← pointsTo_biUnion Finset.univ (ℓ := oLoc d) oset oset_disjoint, oset_cover]
  rw [h1, h2, h3]

/-- A conjunction over the two SparseCores and their sixteen tiles is one over the 32 tiles. -/
theorem tiles (Φ : Fin 32 → sProp 𝕄) :
    (bigSep Finset.univ fun c : Fin 2 => bigSep Finset.univ fun i : Fin 16 => Φ (wid c i)) = bigSep Finset.univ Φ := by
  rw [bigSep_univ_equiv widE Φ, bigSep_univ_prod]
  rfl

/-- What the tiles take together at the start is the call's three buffers, whole. -/
theorem st_eq (d : Dev nD) : (bigSep Finset.univ fun c : Fin ((K (F := F)).nCore 0) => (P tb ix o0).st 0 d c)
    = iprop((tLoc d ↦{fullShare} (tb d : Buf (Elt F) (tLoc d))) ∗ (xLoc d ↦{fullShare} (ix d : Buf (Elt F) (xLoc d))) ∗ oLoc d ↦{fullShare} (o0 d : Buf (Elt F) (oLoc d))) :=
  (tiles (goP tb ix o0 d)).trans (deal tb ix d (o0 d))

/-- What the tiles give back together is the three buffers, the result holding the gathered rows. -/
theorem dn_eq (d : Dev nD) : (bigSep Finset.univ fun c : Fin ((K (F := F)).nCore 0) => (P tb ix o0).dn 0 d c)
    = iprop((tLoc d ↦{fullShare} (tb d : Buf (Elt F) (tLoc d))) ∗ (xLoc d ↦{fullShare} (ix d : Buf (Elt F) (xLoc d))) ∗ oLoc d ↦{fullShare} (gathered (tb d) (ix d) : Buf (Elt F) (oLoc d))) :=
  (tiles (tdP tb ix d)).trans (deal tb ix d _)

/-- The call's three buffers. -/
def callRefs : Finset (DevRef τ sig) := {Proc.devRef .tc main_v2, Proc.devRef .tc main_v7, Proc.devRef .tc main_v8}

/-- Holding the call's buffers is holding the table, the list and the result. -/
theorem held_call (d : Dev nD) (V : Valuation τ sig (Elt F)) :
    (StableHlo.held (T d) callRefs V : sProp 𝕄) = iprop((tLoc d ↦{fullShare} V (Proc.devRef .tc main_v2)) ∗ (xLoc d ↦{fullShare} V (Proc.devRef .tc main_v7)) ∗ oLoc d ↦{fullShare} V (Proc.devRef .tc main_v8)) := by
  unfold StableHlo.held callRefs
  rw [SparseCore.bigSep_insert' (by decide), SparseCore.bigSep_insert' (by decide), bigSep_singleton]

/-- The call's buffers are among those that the host holds. -/
theorem callRefs_sub : callRefs ⊆ Pipeline.ucRefs τ sig := by
  intro b hb
  unfold callRefs at hb
  simp only [Finset.mem_insert, Finset.mem_singleton] at hb
  unfold Pipeline.ucRefs StableHlo.tcRefs
  rcases hb with rfl | rfl | rfl <;> exact Finset.mem_filter.mpr ⟨Finset.mem_map.mpr ⟨_, Finset.mem_univ _, rfl⟩, by decide⟩

end Cert.Proof.KI

end
-- ==== Proof.KI.TileValue.lean ====
/-
  One tile of the SparseCore call, the part that is about contents: which elements each slice of the tile names, what the
  indexed copy leaves in a quarter of the row buffer, and what the copy of that quarter leaves in the result.
-/
module

public import proofs.«01_k».proof.Proof.KI.Setup

@[expose] public section

noncomputable section

namespace Cert.Proof.KI

open Cert.KernelIdeal Cert.KernelIdeal.Gen

open Idealize.ShloMosaic
open Idealize.ShloMosaic.ValueIdx
open Idealize.ShloMosaic.SparseCore (S V T)

variable {F : FTy → Type}

/-- The tile's number from its grid coordinates. -/
def wL (L : grid2.Coords) : Fin 32 := wid (L 0) (L 1)
/-- The tile's number is twice its subcore's number and its core's. -/
theorem wL_val (L : grid2.Coords) : (wL L).val = 2 * (L 1).val + (L 0).val := rfl

/-- The loop makes at most ten trips. -/
theorem trips_le : k2_t1_loop.trips ≤ 10 := k2_t1_abs.2.1
/-- A trip's number is below ten. -/
theorem trip_lt (k : Fin k2_t1_loop.trips) : k.val < 10 := lt_of_lt_of_le k.isLt trips_le

/-- A quarter of the row buffer lies inside it. -/
theorem rB_inb (r : Fin 4) : ∀ a, (![128 * r.val, 0] : Fin 2 → Nat) a + S128x128.size a ≤ S512x128.size a := by
  have := r.isLt; intro a; fin_cases a <;> simp [S128x128, S512x128]; omega

/-! ## The slices a tile names -/

abbrev idxSl (L : grid2.Coords) : Memref sig .scVector .hbm S40x128 .i32 :=
  xV.slice (Rect.unit (s := S1280x128) (k2_off1 L) S40x128.size (k2_off1_inb L)) (fun _ => rfl)
abbrev tAll : Memref sig .scVector .hbm S2097152x128 .f32 :=
  tV.slice (Rect.unit (s := S2097152x128) ![0, 0] S2097152x128.size inb_S2097152x128_S2097152x128_0_0) (fun _ => rfl)
/-- Quarter `r` of the row buffer. -/
abbrev rB (r : Fin 4) : Memref sig .scVector .vmem S128x128 .f32 :=
  rV.slice (Rect.unit (s := S512x128) ![128 * r.val, 0] S128x128.size (rB_inb r)) (fun _ => rfl)
/-- The list row that trip `k` uses for quarter `r`. -/
abbrev sR (k : Fin k2_t1_loop.trips) (r : Fin 4) : Memref sig .scVector .vmem S128 .i32 :=
  (sV.slice (Rect.unit (s := S40x128) (k2_off2 k (BitVec.ofNat 32 r.val)) S1x128.size (k2_off2_inb k r)) (fun _ => rfl)).squeeze S128 squeezes_S1x128_S128
/-- The block of the result that trip `k` fills from quarter `r`. -/
abbrev oB (L : grid2.Coords) (k : Fin k2_t1_loop.trips) (r : Fin 4) : Memref sig .scVector .hbm S128x128 .f32 :=
  oV.slice (Rect.unit (s := S163840x128) (k2_off3 L k (BitVec.ofNat 32 r.val)) S128x128.size (k2_off3_inb L k r)) (fun _ => rfl)

/-- The rows of quarter `r` of the row buffer. -/
theorem set_rB (r : Fin 4) (y : S512x128.Idx) : y ∈ (rB r).view.set ↔ 128 * r.val ≤ (y 0).val ∧ (y 0).val < 128 * r.val + 128 := by
  rw [show (rB r).view.set = _ from View.set_slice_whole _ _, Rect.mem_set_unit]
  constructor
  · intro h; exact h 0
  · intro h a; fin_cases a
    · exact h
    · exact ⟨Nat.zero_le _, by have := (y 1).isLt; simpa [S128x128, S512x128] using this⟩

/-- The rows of block `r` of trip `k` of the result. -/
theorem set_oB (L : grid2.Coords) (k : Fin k2_t1_loop.trips) (r : Fin 4) (x : S163840x128.Idx) :
    x ∈ (oB L k r).view.set ↔ 5120 * (wL L).val + 512 * k.val + 128 * r.val ≤ (x 0).val
      ∧ (x 0).val < 5120 * (wL L).val + 512 * k.val + 128 * r.val + 128 := by
  rw [show (oB L k r).view.set = _ from View.set_slice_whole _ _, Rect.mem_set_unit, k2_off3_eq, wL_val]
  constructor
  · intro h; have := h 0; simp [S128x128] at this; omega
  · intro h a; fin_cases a
    · simp [S128x128]; omega
    · exact ⟨Nat.zero_le _, by have := (x 1).isLt; simpa [S128x128, S163840x128] using this⟩

/-- The list row that gather `r` of trip `k` reads. -/
theorem set_sR (k : Fin k2_t1_loop.trips) (r : Fin 4) (y : S40x128.Idx) : y ∈ (sR k r).view.set ↔ (y 0).val = 4 * k.val + r.val := by
  rw [show (sR k r).view.set = (sV.view.slice (Rect.unit (s := S40x128) (k2_off2 k (BitVec.ofNat 32 r.val)) S1x128.size (k2_off2_inb k r))).set from View.set_reshape _ _,
    View.set_slice_whole, Rect.mem_set_unit, k2_off2_eq]
  constructor
  · intro h; have := h 0; simp [S1x128] at this; omega
  · intro h a; fin_cases a
    · simp [S1x128]; omega
    · exact ⟨Nat.zero_le _, by have := (y 1).isLt; simpa [S1x128, S40x128] using this⟩

/-! ## The contents -/

variable (tb : S2097152x128.Idx → Elt F .f32) (ix : S1280x128.Idx → BitVec 32)

/-- The tile's forty rows of the list. -/
def sbuf (w : Fin 32) : S40x128.Idx → BitVec 32 := fun y => ix (ix2 ⟨(40 * w.val + (y 0).val) % 1280, Nat.mod_lt _ (by decide)⟩ (y 1))
/-- The row buffer once trip `k`'s copies have landed. -/
def rbuf (w : Fin 32) (k : Nat) : S512x128.Idx → Elt F .f32 := fun y => gath tb ix (5120 * w.val + 512 * k + (y 0).val) (y 1)

/-- The slice of the list that the tile fetches holds the tile's rows. -/
theorem read_idxSl (L : grid2.Coords) : (idxSl L).view.read (Elt F) (ix : S1280x128.Idx → Elt F .i32) = sbuf ix (wL L) := by
  funext y
  rw [View.read_apply]
  refine (cast_eq _ _).trans ?_
  unfold sbuf
  refine congrArg ix ?_
  have h0 := (L 0).isLt; have h1 := (L 1).isLt
  have b0 : grid2.bound 0 = 2 := rfl
  have b1 : grid2.bound 1 = 16 := rfl
  have hy := (y 0).isLt
  funext a; apply Fin.ext
  fin_cases a
  · show k2_off1 L 0 + 1 * (y 0).val = (40 * (wL L).val + (y 0).val) % 1280
    rw [k2_off1_eq, wL_val]; simp only [S40x128, Matrix.cons_val_zero] at hy ⊢; omega
  · show k2_off1 L 1 + 1 * (y 1).val = (y 1).val
    rw [k2_off1_eq]; simp

/-- Where an entry of that list row stands in the list. -/
theorem emb_sR (k : Fin k2_t1_loop.trips) (r : Fin 4) (x : S128.Idx) :
    ((sR k r).view.emb x 0).val = 4 * k.val + r.val ∧ ((sR k r).view.emb x 1).val = (x 0).val := by
  have e : Shape.reshapeEquiv (squeezes_S1x128_S128).numel_eq x = (ix2 (0 : Fin 1) (x 0) : S1x128.Idx) := by
    apply Shape.reshapeEquiv_eq_of_rowMajor
    rw [Shape.rowMajor_val_one, Shape.rowMajor_val_two]; simp [ix2]
  constructor
  · show k2_off2 k (BitVec.ofNat 32 r.val) 0 + 1 * (Shape.reshapeEquiv (squeezes_S1x128_S128).numel_eq x 0).val = _
    rw [k2_off2_eq, e]; simp [ix2]
  · show k2_off2 k (BitVec.ofNat 32 r.val) 1 + 1 * (Shape.reshapeEquiv (squeezes_S1x128_S128).numel_eq x 1).val = _
    rw [k2_off2_eq, e]; simp [ix2]

/-- Word `j` of the list row for quarter `r` of trip `k`. -/
theorem read_sR (w : Fin 32) (k : Fin k2_t1_loop.trips) (r : Fin 4) (x : S128.Idx) :
    (sR k r).view.read (Elt F) (sbuf ix w : S40x128.Idx → Elt F .i32) x
      = ix (ix2 ⟨(40 * w.val + 4 * k.val + r.val) % 1280, Nat.mod_lt _ (by decide)⟩ (x 0)) := by
  rw [View.read_apply]
  refine (cast_eq _ _).trans ?_
  unfold sbuf
  refine congrArg ix ?_
  obtain ⟨e0, e1⟩ := emb_sR k r x
  funext a; apply Fin.ext
  fin_cases a
  · show (40 * w.val + ((sR k r).view.emb x 0).val) % 1280 = (40 * w.val + 4 * k.val + r.val) % 1280
    rw [e0, Nat.add_assoc]
  · exact e1

/-- Every list entry in range: what the indexed copy asks of its list. -/
theorem sR_in (hix : ∀ x, (ix x).toNat < 2097152) (w : Fin 32) (k : Fin k2_t1_loop.trips) (r : Fin 4) :
    ∀ x, ((sR k r).view.read (Elt F) (sbuf ix w : S40x128.Idx → Elt F .i32) x).toNat < S2097152x128.size gathers_S2097152x128_S128x128.axis := by
  intro x; rw [read_sR]; exact hix _

/-- A row of block `r` of trip `k` is the table's row that the list names for it. -/
theorem gath_block (w : Fin 32) (k : Fin k2_t1_loop.trips) (r : Fin 4) (j : Nat) (hj : j < 128) (c : Fin 128)
    (hix : ∀ x, (ix x).toNat < 2097152) :
    gath tb ix (5120 * w.val + 512 * k.val + (128 * r.val + j)) c
      = tb (ix2 ⟨(ix (ix2 ⟨(40 * w.val + 4 * k.val + r.val) % 1280, Nat.mod_lt _ (by decide)⟩ ⟨j, hj⟩)).toNat, hix _⟩ c) := by
  unfold gath
  have e1 : (5120 * w.val + 512 * k.val + (128 * r.val + j)) / 128 = 40 * w.val + 4 * k.val + r.val := by omega
  have e2 : (5120 * w.val + 512 * k.val + (128 * r.val + j)) % 128 = j := by omega
  simp only [e1, e2]
  congr 2
  exact Fin.ext (Nat.mod_eq_of_lt (hix _))

/-- The indexed copy of trip `k` into quarter `r` leaves the gathered rows there. -/
theorem gather_val (hix : ∀ x, (ix x).toNat < 2097152) (w : Fin 32) (k : Fin k2_t1_loop.trips) (r : Fin 4) (f : S512x128.Idx → Elt F .f32)
    (hn : S128.numel = S128x128.size gathers_S2097152x128_S128x128.axis')
    (hin : ∀ x, ((sR k r).view.read (Elt F) (sbuf ix w : S40x128.Idx → Elt F .i32) x).toNat < S2097152x128.size gathers_S2097152x128_S128x128.axis)
    (y : S512x128.Idx) (hy : y ∈ (rB r).view.set) :
    (rB r).view.write (Elt F) f (SparseCore.gatherPayload gathers_S2097152x128_S128x128 (tAll.view.read (Elt F) tb)
        (SparseCore.rows ((sR k r).view.read (Elt F) (sbuf ix w : S40x128.Idx → Elt F .i32)) hn hin)) Finset.univ y
      = rbuf tb ix w k.val y := by
  rw [View.set, Finset.mem_map] at hy
  obtain ⟨x, -, rfl⟩ := hy
  rw [View.write_emb_of_mem _ _ (Finset.mem_univ x)]
  refine (cast_eq _ _).trans ?_
  unfold SparseCore.gatherPayload rbuf
  rw [View.read_apply]
  refine (cast_eq _ _).trans ?_
  have e0 : ((rB r).view.emb x 0).val = 128 * r.val + (x 0).val := by
    show (![128 * r.val, 0] : Fin 2 → Nat) 0 + 1 * (x 0).val = _; simp
  have e1 : ((rB r).view.emb x 1) = x 1 := by
    apply Fin.ext; show (![128 * r.val, 0] : Fin 2 → Nat) 1 + 1 * (x 1).val = _; simp
  rw [e0, e1, gath_block tb ix w k r (x 0).val (x 0).isLt (x 1) hix]
  refine congrArg tb ?_
  have ha : gathers_S2097152x128_S128x128.axis = (0 : Fin 2) := by decide
  have ha' : gathers_S2097152x128_S128x128.axis' = (0 : Fin 2) := by decide
  set rw' := SparseCore.rows ((sR k r).view.read (Elt F) (sbuf ix w : S40x128.Idx → Elt F .i32)) hn hin with hrw
  funext a; apply Fin.ext
  fin_cases a
  · show 0 + 1 * (gathers_S2097152x128_S128x128.idx rw' x 0).val = _
    have h := congrArg Fin.val (gathers_S2097152x128_S128x128.idx_axis rw' x)
    rw [Nat.zero_add, Nat.one_mul]
    refine Eq.trans h ?_
    rw [hrw]
    show ((sR k r).view.read (Elt F) (sbuf ix w : S40x128.Idx → Elt F .i32) _).toNat = _
    rw [read_sR]
    show _ = BitVec.toNat _
    congr 4
    have := Shape.rowMajor_val_one (S128.rowMajor.symm ((x 0).cast hn.symm) : S128.Idx)
    apply Fin.ext
    rw [Equiv.apply_symm_apply] at this
    exact this.symm
  · show 0 + 1 * (gathers_S2097152x128_S128x128.idx rw' x 1).val = (x 1).val
    have h := gathers_S2097152x128_S128x128.idx_of_ne rw' x (1 : Fin 2) (by decide)
    rw [Nat.zero_add, Nat.one_mul]
    exact h

/-- The copy of quarter `r` out of the row buffer leaves the gathered rows in trip `k`'s block of the result. -/
theorem copy_val (L : grid2.Coords) (k : Fin k2_t1_loop.trips) (r : Fin 4) (f : S163840x128.Idx → Elt F .f32)
    (x : S163840x128.Idx) (hx : x ∈ (oB L k r).view.set) :
    (oB L k r).view.write (Elt F) f (ReadAs.same.apply ((rB r).view.read (Elt F) (rbuf tb ix (wL L) k.val))) Finset.univ x
      = gathered tb ix x := by
  rw [View.set, Finset.mem_map] at hx
  obtain ⟨z, -, rfl⟩ := hx
  rw [View.write_emb_of_mem _ _ (Finset.mem_univ z)]
  refine (cast_eq _ _).trans ?_
  rw [show ∀ g : S128x128.Idx → Elt F .f32, ReadAs.same.apply g z = g z from fun _ => rfl, View.read_apply]
  refine (cast_eq _ _).trans ?_
  unfold rbuf gathered
  have e0 : ((rB r).view.emb z 0).val = 128 * r.val + (z 0).val := by
    show (![128 * r.val, 0] : Fin 2 → Nat) 0 + 1 * (z 0).val = _; simp
  have e1 : ((rB r).view.emb z 1) = z 1 := by
    apply Fin.ext; show (![128 * r.val, 0] : Fin 2 → Nat) 1 + 1 * (z 1).val = _; simp
  have o0 : ((oB L k r).view.emb z 0).val = 5120 * (wL L).val + 512 * k.val + (128 * r.val + (z 0).val) := by
    show k2_off3 L k (BitVec.ofNat 32 r.val) 0 + 1 * (z 0).val = _
    rw [k2_off3_eq, wL_val]; simp; omega
  have o1 : ((oB L k r).view.emb z 1) = z 1 := by
    apply Fin.ext; show k2_off3 L k (BitVec.ofNat 32 r.val) 1 + 1 * (z 1).val = _
    rw [k2_off3_eq]; simp
  rw [e0, e1, o0, o1]

end Cert.Proof.KI

end
-- ==== Proof.KI.Tile.lean ====
/-
  One tile of the SparseCore call, run: the fetch of its rows of the list, then ten trips, each starting four indexed
  copies of 128 table rows, and copying each quarter of the row buffer out to the result as it lands. The invariant says
  which rows of the result are gathered already.
-/
module

public import proofs.«01_k».proof.Proof.KI.TileValue

@[expose] public section

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Cutting a held buffer into four pieces and a rest -/

section Cut

variable {ℓ : Loc nD τ sig} {S I₀ I₁ I₂ I₃ : Finset (Idx ℓ)} {q : PosShare TreeShare}

/-- A buffer splits into four disjoint parts and what is left. -/
theorem cut4 (h₀ : I₀ ⊆ S) (h₁ : I₁ ⊆ S \ I₀) (h₂ : I₂ ⊆ (S \ I₀) \ I₁) (h₃ : I₃ ⊆ ((S \ I₀) \ I₁) \ I₂) (f : Buf (Elt F) ℓ) :
    (ℓ ↦[S]{q} f : sProp 𝕄) = iprop((ℓ ↦[I₀]{q} f) ∗ (ℓ ↦[I₁]{q} f) ∗ (ℓ ↦[I₂]{q} f) ∗ (ℓ ↦[I₃]{q} f) ∗ (ℓ ↦[(((S \ I₀) \ I₁) \ I₂) \ I₃]{q} f)) := by
  rw [BI.Entails.antisymm (pointsTo_split_subset h₀).1 (pointsTo_split_subset h₀).2,
    BI.Entails.antisymm (pointsTo_split_subset h₁).1 (pointsTo_split_subset h₁).2,
    BI.Entails.antisymm (pointsTo_split_subset h₂).1 (pointsTo_split_subset h₂).2,
    BI.Entails.antisymm (pointsTo_split_subset h₃).1 (pointsTo_split_subset h₃).2]

/-- The same where the pieces are four runs of `n` consecutive rows. -/
theorem cut4_rows (row : Idx ℓ → ℕ) (lo n : ℕ) (hS : ∀ y, lo ≤ row y → row y < lo + 4 * n → y ∈ S)
    (h₀ : ∀ y, y ∈ I₀ ↔ lo ≤ row y ∧ row y < lo + n) (h₁ : ∀ y, y ∈ I₁ ↔ lo + n ≤ row y ∧ row y < lo + 2 * n)
    (h₂ : ∀ y, y ∈ I₂ ↔ lo + 2 * n ≤ row y ∧ row y < lo + 3 * n) (h₃ : ∀ y, y ∈ I₃ ↔ lo + 3 * n ≤ row y ∧ row y < lo + 4 * n) (f : Buf (Elt F) ℓ) :
    (ℓ ↦[S]{q} f : sProp 𝕄) = iprop((ℓ ↦[I₀]{q} f) ∗ (ℓ ↦[I₁]{q} f) ∗ (ℓ ↦[I₂]{q} f) ∗ (ℓ ↦[I₃]{q} f) ∗ (ℓ ↦[(((S \ I₀) \ I₁) \ I₂) \ I₃]{q} f)) := by
  refine cut4 ?_ ?_ ?_ ?_ f <;> intro y hy
  · have := (h₀ y).1 hy; exact hS y (by omega) (by omega)
  · have := (h₁ y).1 hy
    simp only [Finset.mem_sdiff, h₀]; exact ⟨hS y (by omega) (by omega), by omega⟩
  · have := (h₂ y).1 hy
    simp only [Finset.mem_sdiff, h₀, h₁]; exact ⟨⟨hS y (by omega) (by omega), by omega⟩, by omega⟩
  · have := (h₃ y).1 hy
    simp only [Finset.mem_sdiff, h₀, h₁, h₂]; exact ⟨⟨⟨hS y (by omega) (by omega), by omega⟩, by omega⟩, by omega⟩

/-- What is left over is outside the four runs. -/
theorem rest_rows {row : Idx ℓ → ℕ} {lo n : ℕ}
    (h₀ : ∀ y, y ∈ I₀ ↔ lo ≤ row y ∧ row y < lo + n) (h₁ : ∀ y, y ∈ I₁ ↔ lo + n ≤ row y ∧ row y < lo + 2 * n)
    (h₂ : ∀ y, y ∈ I₂ ↔ lo + 2 * n ≤ row y ∧ row y < lo + 3 * n) (h₃ : ∀ y, y ∈ I₃ ↔ lo + 3 * n ≤ row y ∧ row y < lo + 4 * n)
    {y : Idx ℓ} (hy : y ∈ (((S \ I₀) \ I₁) \ I₂) \ I₃) : y ∈ S ∧ (row y < lo ∨ lo + 4 * n ≤ row y) := by
  simp only [Finset.mem_sdiff, h₀, h₁, h₂, h₃] at hy
  exact ⟨hy.1.1.1.1, by omega⟩

/-- A share of a buffer splits into four. -/
theorem leaves4 (f : Buf (Elt F) ℓ) :
    (ℓ ↦[S]{q} f : sProp 𝕄) = iprop((ℓ ↦[S]{ShareLeaves.leaf 2 q 0} f) ∗ (ℓ ↦[S]{ShareLeaves.leaf 2 q 1} f)
      ∗ (ℓ ↦[S]{ShareLeaves.leaf 2 q 2} f) ∗ (ℓ ↦[S]{ShareLeaves.leaf 2 q 3} f)) := by
  rw [ShareLeaves.pointsTo_leaves S f 2 q, Idealize.SL.BI.bigSep_univ_eq_bigSepL ([0, 1, 2, 3] : List (Fin (2 ^ 2))) (by decide) (by decide) _]
  rfl

end Cut

/-- A conjunction over four is its four conjuncts. -/
theorem bigSep_four (Φ : Fin 4 → sProp 𝕄) : bigSep Finset.univ Φ = iprop(Φ 0 ∗ Φ 1 ∗ Φ 2 ∗ Φ 3) := by
  rw [Idealize.SL.BI.bigSep_univ_eq_bigSepL ([0, 1, 2, 3] : List (Fin 4)) (by decide) (by decide) _]; rfl

/-- Binding a value that is returned is applying to it. -/
theorem ret_bind' {E : Type → Type} {α β : Type} (a : α) (k : α → Prog E β) : (Prog.ret a).bind k = k a := rfl

variable [FloatOps F]

section Tile

variable (tb : S2097152x128.Idx → Elt F .f32) (ix : S1280x128.Idx → BitVec 32) (o0 : S163840x128.Idx → Elt F .f32)
variable (d : Dev nD) (L : grid2.Coords)

abbrev cV (L : grid2.Coords) : Fin τ.nSC := (L 0).castLE hcore2
abbrev jV (L : grid2.Coords) : Fin τ.nSub := (L 1).castLE hsub2
/-- The tile's thread. -/
abbrev tV' (d : Dev nD) (L : grid2.Coords) : Thread nD τ := V d (cV L) (jV L)

/-- The tile's cells: the four indexed copies', the copies out', the fetch's. -/
abbrev cell0 : GSem nD τ sig := (tV' d L, .dma cc2_scratch2.sem)
abbrev cell1 : GSem nD τ sig := (tV' d L, .dma cc2_scratch3.sem)
abbrev cell2 : GSem nD τ sig := (tV' d L, .dma cc2_scratch4.sem)
abbrev cell3 : GSem nD τ sig := (tV' d L, .dma cc2_scratch5.sem)
abbrev cellW : GSem nD τ sig := (tV' d L, .dma cc2_scratch6.sem)
abbrev cellF : GSem nD τ sig := (tV' d L, .dma cc2_scoped0.sem)

/-- What the copy of quarter `r` hands over: its block of the result gathered, the quarter back. -/
def outD (k : Fin k2_t1_loop.trips) (r : Fin 4) : sProp 𝕄 :=
  iprop(((oB L k r).view.loc (tV' d L) ↦[(oB L k r).view.set]{fullShare} (gathered tb ix : Buf (Elt F) ((oB L k r).view.loc (tV' d L))))
    ∗ ((rB r).view.loc (tV' d L) ↦[(rB r).view.set]{fullShare} (rbuf tb ix (wL L) k.val : Buf (Elt F) ((rB r).view.loc (tV' d L)))))

instance outD_storable (k : Fin k2_t1_loop.trips) (r : Fin 4) : BI.Storable (upEmb : UEmb _ 𝕄) (outD tb ix d L k r) := by
  unfold outD; infer_instance

/-- Before trip `n`: the rows below `512 n` of the tile's block gathered, the others as they were. -/
def inv (O : CellTallies nD τ sig (HIx 1)) (W : Waits sig (HIx 1)) (n : Nat) (_ : Unit) : sProp 𝕄 :=
  iprop(Transfers.MayWaits (tV' d L) (none : HIx 1) O
    ∗ ((tAll).view.loc (tV' d L) ↦[(tAll).view.set]{shr (wL L)} (tb : Buf (Elt F) ((tAll).view.loc (tV' d L))))
    ∗ ((sV).view.loc (tV' d L) ↦[(sV).view.set]{fullShare} (sbuf ix (wL L) : Buf (Elt F) ((sV).view.loc (tV' d L))))
    ∗ (∃ f, (rV).view.loc (tV' d L) ↦[(rV).view.set]{fullShare} f)
    ∗ ((oV).view.loc (tV' d L) ↦[oset (wL L)]{fullShare} (partly tb ix o0 (5120 * (wL L).val + 512 * n) : Buf (Elt F) ((oV).view.loc (tV' d L))))
    ∗ semVal (cell0 d L) 0 ∗ semVal (cell1 d L) 0 ∗ semVal (cell2 d L) 0 ∗ semVal (cell3 d L) 0 ∗ semVal (cellW d L) 0
    ∗ ∃ W', ⌜∀ p ∈ W', p ∈ W ∨ p.2 = none⌝ ∗ owes (tV' d L) O W')

/-- The list buffer is whole. -/
theorem sV_set : (sV).view.set = Finset.univ := View.set_whole _
/-- The row buffer is whole. -/
theorem rV_set : (rV).view.set = Finset.univ := View.set_whole _

/-- The amount of one copy out. -/
abbrev NW : ℕ := (rB 0).view.dmaCredit

/-- The list rows, the quarters and the blocks that a trip uses, cut out of the tile's buffers. -/
theorem cutS (k : Fin k2_t1_loop.trips) (f : Buf (Elt F) ((sV).view.loc (tV' d L))) :
    (((sV).view.loc (tV' d L) ↦[(sV).view.set]{fullShare} f : sProp 𝕄)
      = iprop(((sV).view.loc (tV' d L) ↦[(sR k 0).view.set]{fullShare} f) ∗ ((sV).view.loc (tV' d L) ↦[(sR k 1).view.set]{fullShare} f)
        ∗ ((sV).view.loc (tV' d L) ↦[(sR k 2).view.set]{fullShare} f) ∗ ((sV).view.loc (tV' d L) ↦[(sR k 3).view.set]{fullShare} f)
        ∗ ((sV).view.loc (tV' d L) ↦[((((sV).view.set \ (sR k 0).view.set) \ (sR k 1).view.set) \ (sR k 2).view.set) \ (sR k 3).view.set]{fullShare} f))) :=
  cut4_rows (F := F) (ℓ := (sV).view.loc (tV' d L)) (q := fullShare) (S := (sV).view.set)
    (I₀ := (sR k 0).view.set) (I₁ := (sR k 1).view.set) (I₂ := (sR k 2).view.set) (I₃ := (sR k 3).view.set)
    (fun y : S40x128.Idx => (y 0).val) (4 * k.val) 1 (fun _ _ _ => by rw [sV_set]; exact Finset.mem_univ _)
    (fun y => (set_sR k 0 y).trans (by simp; omega)) (fun y => (set_sR k 1 y).trans (by simp; omega))
    (fun y => (set_sR k 2 y).trans (by simp; omega)) (fun y => (set_sR k 3 y).trans (by simp; omega)) f
/-- The row buffer splits into its four quarters. -/
theorem cutR (f : Buf (Elt F) ((rV).view.loc (tV' d L))) :
    (((rV).view.loc (tV' d L) ↦[(rV).view.set]{fullShare} f : sProp 𝕄)
      = iprop(((rV).view.loc (tV' d L) ↦[(rB 0).view.set]{fullShare} f) ∗ ((rV).view.loc (tV' d L) ↦[(rB 1).view.set]{fullShare} f)
        ∗ ((rV).view.loc (tV' d L) ↦[(rB 2).view.set]{fullShare} f) ∗ ((rV).view.loc (tV' d L) ↦[(rB 3).view.set]{fullShare} f)
        ∗ ((rV).view.loc (tV' d L) ↦[((((rV).view.set \ (rB 0).view.set) \ (rB 1).view.set) \ (rB 2).view.set) \ (rB 3).view.set]{fullShare} f))) :=
  cut4_rows (F := F) (ℓ := (rV).view.loc (tV' d L)) (q := fullShare) (S := (rV).view.set)
    (I₀ := (rB 0).view.set) (I₁ := (rB 1).view.set) (I₂ := (rB 2).view.set) (I₃ := (rB 3).view.set)
    (fun y : S512x128.Idx => (y 0).val) 0 128 (fun _ _ _ => by rw [rV_set]; exact Finset.mem_univ _)
    (fun y => (set_rB 0 y).trans (by simp)) (fun y => (set_rB 1 y).trans (by simp))
    (fun y => (set_rB 2 y).trans (by simp)) (fun y => (set_rB 3 y).trans (by simp)) f

/-- The rows of the four blocks that trip `k` writes. -/
theorem mem_oB (k : Fin k2_t1_loop.trips) :
    (∀ y, y ∈ (oB L k 0).view.set ↔ 5120 * (wL L).val + 512 * k.val ≤ (y 0).val ∧ (y 0).val < 5120 * (wL L).val + 512 * k.val + 128)
    ∧ (∀ y, y ∈ (oB L k 1).view.set ↔ 5120 * (wL L).val + 512 * k.val + 128 ≤ (y 0).val ∧ (y 0).val < 5120 * (wL L).val + 512 * k.val + 2 * 128)
    ∧ (∀ y, y ∈ (oB L k 2).view.set ↔ 5120 * (wL L).val + 512 * k.val + 2 * 128 ≤ (y 0).val ∧ (y 0).val < 5120 * (wL L).val + 512 * k.val + 3 * 128)
    ∧ (∀ y, y ∈ (oB L k 3).view.set ↔ 5120 * (wL L).val + 512 * k.val + 3 * 128 ≤ (y 0).val ∧ (y 0).val < 5120 * (wL L).val + 512 * k.val + 4 * 128) :=
  ⟨fun y => (set_oB L k 0 y).trans (by simp), fun y => (set_oB L k 1 y).trans (by simp only [Fin.val_one]),
    fun y => (set_oB L k 2 y).trans (by simp only [Fin.val_two]), fun y => (set_oB L k 3 y).trans (by show _ + 128 * 3 ≤ _ ∧ _ < _ + 128 * 3 + 128 ↔ _; omega)⟩

/-- The tile's rows of the result split into the four blocks that trip `k` writes and the others. -/
theorem cutO (k : Fin k2_t1_loop.trips) (f : Buf (Elt F) ((oV).view.loc (tV' d L))) :
    (((oV).view.loc (tV' d L) ↦[oset (wL L)]{fullShare} f : sProp 𝕄)
      = iprop(((oV).view.loc (tV' d L) ↦[(oB L k 0).view.set]{fullShare} f) ∗ ((oV).view.loc (tV' d L) ↦[(oB L k 1).view.set]{fullShare} f)
        ∗ ((oV).view.loc (tV' d L) ↦[(oB L k 2).view.set]{fullShare} f) ∗ ((oV).view.loc (tV' d L) ↦[(oB L k 3).view.set]{fullShare} f)
        ∗ ((oV).view.loc (tV' d L) ↦[(((oset (wL L) \ (oB L k 0).view.set) \ (oB L k 1).view.set) \ (oB L k 2).view.set) \ (oB L k 3).view.set]{fullShare} f))) :=
  cut4_rows (F := F) (ℓ := (oV).view.loc (tV' d L)) (q := fullShare) (S := oset (wL L))
    (I₀ := (oB L k 0).view.set) (I₁ := (oB L k 1).view.set) (I₂ := (oB L k 2).view.set) (I₃ := (oB L k 3).view.set)
    (fun y : S163840x128.Idx => (y 0).val) (5120 * (wL L).val + 512 * k.val) 128
    (fun _ _ _ => by have := trip_lt k; refine mem_oset.2 ?_; omega)
    (mem_oB L k).1 (mem_oB L k).2.1 (mem_oB L k).2.2.1 (mem_oB L k).2.2.2 f

/-- The gathers of a quarter's 128 rows together count as one copy of the quarter. -/
theorem row_credits (h : S2097152x128.Gathers 0 S128x128) (r : Fin 4) :
    ∑ j, ((rB r).slice (S128x128.rowRect h.axis' j) (S128x128.stride_rowRect h.axis' j)).view.dmaCredit = NW :=
  SparseCore.sum_rowCredit_eq_dmaCredit (rB r) h.axis' (fun _ => rfl)

/-- The blocks gathered by trip `k` and the rest of the tile's rows are the tile's rows as trip `k + 1` finds them. -/
theorem outBack (k : Fin k2_t1_loop.trips) :
    iprop(((oB L k 0).view.loc (tV' d L) ↦[(oB L k 0).view.set]{fullShare} (gathered tb ix : Buf (Elt F) ((oB L k 0).view.loc (tV' d L))))
        ∗ ((oB L k 1).view.loc (tV' d L) ↦[(oB L k 1).view.set]{fullShare} (gathered tb ix : Buf (Elt F) ((oB L k 1).view.loc (tV' d L))))
        ∗ ((oB L k 2).view.loc (tV' d L) ↦[(oB L k 2).view.set]{fullShare} (gathered tb ix : Buf (Elt F) ((oB L k 2).view.loc (tV' d L))))
        ∗ ((oB L k 3).view.loc (tV' d L) ↦[(oB L k 3).view.set]{fullShare} (gathered tb ix : Buf (Elt F) ((oB L k 3).view.loc (tV' d L))))
        ∗ ((oV).view.loc (tV' d L) ↦[(((oset (wL L) \ (oB L k 0).view.set) \ (oB L k 1).view.set) \ (oB L k 2).view.set) \ (oB L k 3).view.set]{fullShare}
            (partly tb ix o0 (5120 * (wL L).val + 512 * k.val) : Buf (Elt F) ((oV).view.loc (tV' d L)))))
      ⊢ ((oV).view.loc (tV' d L) ↦[oset (wL L)]{fullShare} (partly tb ix o0 (5120 * (wL L).val + 512 * (k.val + 1)) : Buf (Elt F) ((oV).view.loc (tV' d L))) : sProp 𝕄) := by
  obtain ⟨m0, m1, m2, m3⟩ := mem_oB L k
  have e : ∀ x : S163840x128.Idx, (x 0).val < 5120 * (wL L).val + 512 * (k.val + 1) →
      gathered tb ix x = partly tb ix o0 (5120 * (wL L).val + 512 * (k.val + 1)) x := fun x h => by unfold gathered partly; rw [if_pos h]
  have e4 : ∀ x ∈ (((oset (wL L) \ (oB L k 0).view.set) \ (oB L k 1).view.set) \ (oB L k 2).view.set) \ (oB L k 3).view.set,
      partly tb ix o0 (5120 * (wL L).val + 512 * k.val) x = partly tb ix o0 (5120 * (wL L).val + 512 * (k.val + 1)) x := fun x hx => by
    have h : (x 0).val < 5120 * (wL L).val + 512 * k.val ∨ 5120 * (wL L).val + 512 * k.val + 4 * 128 ≤ (x 0).val :=
      (rest_rows (ℓ := (oV).view.loc (tV' d L)) (S := oset (wL L)) (I₀ := (oB L k 0).view.set) (I₁ := (oB L k 1).view.set) (I₂ := (oB L k 2).view.set) (I₃ := (oB L k 3).view.set)
        (row := fun y : S163840x128.Idx => (y 0).val) m0 m1 m2 m3 hx).2
    unfold partly
    by_cases hl : (x 0).val < 5120 * (wL L).val + 512 * k.val
    · rw [if_pos hl, if_pos (by omega)]
    · rw [if_neg hl, if_neg (by omega)]
  iintro ⟨H0, H1, H2, H3, Hr⟩
  iapply (Entails.of_eq (cutO d L k (partly tb ix o0 (5120 * (wL L).val + 512 * (k.val + 1)))).symm)
  isplitl [H0]
  · iapply (Entails.of_eq (pointsTo_congr fun x hx => e x (by have := (m0 x).1 hx; omega))) $$ H0
  isplitl [H1]
  · iapply (Entails.of_eq (pointsTo_congr fun x hx => e x (by have := (m1 x).1 hx; omega))) $$ H1
  isplitl [H2]
  · iapply (Entails.of_eq (pointsTo_congr fun x hx => e x (by have := (m2 x).1 hx; omega))) $$ H2
  isplitl [H3]
  · iapply (Entails.of_eq (pointsTo_congr fun x hx => e x (by have := (m3 x).1 hx; omega))) $$ H3
  iapply (Entails.of_eq (pointsTo_congr e4)) $$ Hr

/-- The quarters and the rest of the row buffer are the row buffer at some contents. -/
theorem rowsBack (k : ℕ) (f : Buf (Elt F) ((rV).view.loc (tV' d L))) :
    iprop(((rB 0).view.loc (tV' d L) ↦[(rB 0).view.set]{fullShare} (rbuf tb ix (wL L) k : Buf (Elt F) ((rB 0).view.loc (tV' d L))))
        ∗ ((rB 1).view.loc (tV' d L) ↦[(rB 1).view.set]{fullShare} (rbuf tb ix (wL L) k : Buf (Elt F) ((rB 1).view.loc (tV' d L))))
        ∗ ((rB 2).view.loc (tV' d L) ↦[(rB 2).view.set]{fullShare} (rbuf tb ix (wL L) k : Buf (Elt F) ((rB 2).view.loc (tV' d L))))
        ∗ ((rB 3).view.loc (tV' d L) ↦[(rB 3).view.set]{fullShare} (rbuf tb ix (wL L) k : Buf (Elt F) ((rB 3).view.loc (tV' d L))))
        ∗ ((rV).view.loc (tV' d L) ↦[((((rV).view.set \ (rB 0).view.set) \ (rB 1).view.set) \ (rB 2).view.set) \ (rB 3).view.set]{fullShare} f))
      ⊢ (∃ g, (rV).view.loc (tV' d L) ↦[(rV).view.set]{fullShare} g : sProp 𝕄) := by
  have h : ∀ y ∈ ((((rV).view.set \ (rB 0).view.set) \ (rB 1).view.set) \ (rB 2).view.set) \ (rB 3).view.set, f y = rbuf tb ix (wL L) k y := fun y hy => by
    have := (rest_rows (ℓ := (rV).view.loc (tV' d L)) (S := (rV).view.set) (I₀ := (rB 0).view.set) (I₁ := (rB 1).view.set) (I₂ := (rB 2).view.set) (I₃ := (rB 3).view.set) (row := fun y : S512x128.Idx => (y 0).val) (lo := 0) (n := 128) (fun y => (set_rB 0 y).trans (by simp)) (fun y => (set_rB 1 y).trans (by simp))
      (fun y => (set_rB 2 y).trans (by simp)) (fun y => (set_rB 3 y).trans (by simp)) hy).2
    have hy : (y 0).val < 512 := (y 0).isLt
    have h' : (y 0).val < 0 ∨ 0 + 4 * 128 ≤ (y 0).val := this
    omega
  iintro ⟨H0, H1, H2, H3, Hf⟩
  ihave Hf' := (Entails.of_eq (pointsTo_congr h)) $$ Hf
  iexists _
  iapply (Entails.of_eq (cutR d L (rbuf tb ix (wL L) k : Buf (Elt F) ((rV).view.loc (tV' d L)))).symm)
  isplitl [H0]; · iexact H0
  isplitl [H1]; · iexact H1
  isplitl [H2]; · iexact H2
  isplitl [H3]; · iexact H3
  iexact Hf'

set_option maxHeartbeats 4000000 in
/-- One trip keeps the invariant. -/
theorem trip (hix : ∀ x, (ix x).toNat < 2097152) (O : CellTallies nD τ sig (HIx 1)) (W : Waits sig (HIx 1)) (k : Fin k2_t1_loop.trips) (v2 : BitVec 32) :
    inv tb ix o0 d L O W k.val ()
      ⊢ wp frame (wpE (defs₀ (F := F)) 𝒱₀ (tV' d L) none) Set.univ
          (k2_t1_body L tV (Memref.isWhole_whole _) xV (Memref.isWhole_whole _) oV (Memref.isWhole_whole _) sV (Memref.isWhole_whole _) rV (Memref.isWhole_whole _)
            cc2_scratch2 cc2_scratch3 cc2_scratch4 cc2_scratch5 cc2_scratch6 cc2_scoped0 v2 k ())
          (inv tb ix o0 d L O W (k.val + 1)) := by
  have hk := trip_lt k
  unfold inv k2_t1_body
  simp only [k2_part1_eq_skeleton, k2_part2_eq_skeleton, k2_part3_eq_skeleton]
  unfold k2_part1_skel k2_part2_skel k2_part3_skel
  iintro ⟨#Hmw, Ht, Hs, ⟨%fr, Hr⟩, Ho, H0, H1, H2, H3, HW, %W', %hW', HO⟩
  ihave Ht' := (Entails.of_eq (leaves4 _)) $$ Ht
  icases Ht' with ⟨Ht0, Ht1, Ht2, Ht3⟩
  have ms : ∀ (r : Fin 4) (y : S40x128.Idx), y ∈ (sR k r).view.set ↔ (y 0).val = 4 * k.val + r.val := fun r y => set_sR k r y
  ihave Hs' := (Entails.of_eq (cutS d L k _)) $$ Hs
  icases Hs' with ⟨Hs0, Hs1, Hs2, Hs3, Hsr⟩
  ihave Hr' := (Entails.of_eq (cutR d L _)) $$ Hr
  icases Hr' with ⟨Hr0, Hr1, Hr2, Hr3, Hrr⟩
  ihave Ho' := (Entails.of_eq (cutO d L k _)) $$ Ho
  icases Ho' with ⟨Ho0, Ho1, Ho2, Ho3, Hor⟩
  simp only [bind_assoc, pure_bind]
  iapply (SparseCore.wp_indirectGatherLocal countersEmb 𝒱₀ (tV' d L) none (hg := gathers_S2097152x128_S128x128) (default : HIx 1)
      NW (row_credits _ 0) (by decide) (sR_in ix hix (wL L) k 0)) $$ [Ht0 Hr0 Hs0 H0]
  · isplitl [Ht0]; · iexact Ht0
    isplitl [Hr0]; · iexact Hr0
    isplitl [Hs0]; · iexact Hs0
    iexact H0
  iintro Hf0
  simp only [ret_bind']
  iapply (SparseCore.wp_indirectGatherLocal countersEmb 𝒱₀ (tV' d L) none (hg := gathers_S2097152x128_S128x128) (default : HIx 1)
      NW (row_credits _ 1) (by decide) (sR_in ix hix (wL L) k 1)) $$ [Ht1 Hr1 Hs1 H1]
  · isplitl [Ht1]; · iexact Ht1
    isplitl [Hr1]; · iexact Hr1
    isplitl [Hs1]; · iexact Hs1
    iexact H1
  iintro Hf1
  iapply (SparseCore.wp_indirectGatherLocal countersEmb 𝒱₀ (tV' d L) none (hg := gathers_S2097152x128_S128x128) (default : HIx 1)
      NW (row_credits _ 2) (by decide) (sR_in ix hix (wL L) k 2)) $$ [Ht2 Hr2 Hs2 H2]
  · isplitl [Ht2]; · iexact Ht2
    isplitl [Hr2]; · iexact Hr2
    isplitl [Hs2]; · iexact Hs2
    iexact H2
  iintro Hf2
  iapply (SparseCore.wp_indirectGatherLocal countersEmb 𝒱₀ (tV' d L) none (hg := gathers_S2097152x128_S128x128) (default : HIx 1)
      NW (row_credits _ 3) (by decide) (sR_in ix hix (wL L) k 3)) $$ [Ht3 Hr3 Hs3 H3]
  · isplitl [Ht3]; · iexact Ht3
    isplitl [Hr3]; · iexact Hr3
    isplitl [Hs3]; · iexact Hs3
    iexact H3
  iintro Hf3
  imod (Transfers.batch_alloc' countersEmb (tV' d L) (default : HIx 1) NW (outD tb ix d L k) (sm := .dma cc2_scratch6.sem) (E := Set.univ)) $$ HW with HB
  iapply (Transfers.wp_waitLocalO countersEmb 𝒱₀ (tV' d L) none (default : HIx 1) (rfl : (rB 0).view.dmaCredit = NW)) $$ [Hf0 HO]
  · isplitl [Hf0]; · iexact Hf0
    isplitl [HO]; · iexact HO
    iapply (Transfers.MayWaits.elim (SemLoc.dma cc2_scratch2.sem)) $$ Hmw
  iintro ⟨⟨Hr0, Ht0, Hs0⟩, H0, HO⟩
  ihave Hr0' := (Entails.of_eq (pointsTo_congr (fun y hy => gather_val tb ix hix (wL L) k 0 _ _ (sR_in ix hix (wL L) k 0) y hy))) $$ Hr0
  iapply (Transfers.wp_dmaBatch countersEmb 𝒱₀ (tV' d L) none (src := rB 0) (dst := oB L k 0) (default : HIx 1) NW rfl subset_rfl
    (D := outD tb ix d L k) (j := 0) (u := 0) (by decide) (Nat.zero_le _)
    (sep_mono_left (Entails.of_eq (pointsTo_congr (fun x hx => copy_val tb ix L k 0 _ x hx))))) $$ [Hr0' Ho0 HB]
  · isplitl [Hr0']; · iexact Hr0'
    isplitl [Ho0]; · iexact Ho0
    iexact HB
  iintro HB
  iapply (Transfers.wp_waitLocalO countersEmb 𝒱₀ (tV' d L) none (default : HIx 1) (rfl : (rB 1).view.dmaCredit = NW)) $$ [Hf1 HO]
  · isplitl [Hf1]; · iexact Hf1
    isplitl [HO]; · iexact HO
    iapply (Transfers.MayWaits.elim (SemLoc.dma cc2_scratch3.sem)) $$ Hmw
  iintro ⟨⟨Hr1, Ht1, Hs1⟩, H1, HO⟩
  ihave Hr1' := (Entails.of_eq (pointsTo_congr (fun y hy => gather_val tb ix hix (wL L) k 1 _ _ (sR_in ix hix (wL L) k 1) y hy))) $$ Hr1
  iapply (Transfers.wp_dmaBatch countersEmb 𝒱₀ (tV' d L) none (src := rB 1) (dst := oB L k 1) (default : HIx 1) NW rfl subset_rfl
    (D := outD tb ix d L k) (j := 1) (u := 0) (by decide) (Nat.zero_le _)
    (sep_mono_left (Entails.of_eq (pointsTo_congr (fun x hx => copy_val tb ix L k 1 _ x hx))))) $$ [Hr1' Ho1 HB]
  · isplitl [Hr1']; · iexact Hr1'
    isplitl [Ho1]; · iexact Ho1
    iexact HB
  iintro HB
  iapply (Transfers.wp_waitLocalO countersEmb 𝒱₀ (tV' d L) none (default : HIx 1) (rfl : (rB 2).view.dmaCredit = NW)) $$ [Hf2 HO]
  · isplitl [Hf2]; · iexact Hf2
    isplitl [HO]; · iexact HO
    iapply (Transfers.MayWaits.elim (SemLoc.dma cc2_scratch4.sem)) $$ Hmw
  iintro ⟨⟨Hr2, Ht2, Hs2⟩, H2, HO⟩
  ihave Hr2' := (Entails.of_eq (pointsTo_congr (fun y hy => gather_val tb ix hix (wL L) k 2 _ _ (sR_in ix hix (wL L) k 2) y hy))) $$ Hr2
  iapply (Transfers.wp_dmaBatch countersEmb 𝒱₀ (tV' d L) none (src := rB 2) (dst := oB L k 2) (default : HIx 1) NW rfl subset_rfl
    (D := outD tb ix d L k) (j := 2) (u := 0) (by decide) (Nat.zero_le _)
    (sep_mono_left (Entails.of_eq (pointsTo_congr (fun x hx => copy_val tb ix L k 2 _ x hx))))) $$ [Hr2' Ho2 HB]
  · isplitl [Hr2']; · iexact Hr2'
    isplitl [Ho2]; · iexact Ho2
    iexact HB
  iintro HB
  iapply (Transfers.wp_waitLocalO countersEmb 𝒱₀ (tV' d L) none (default : HIx 1) (rfl : (rB 3).view.dmaCredit = NW)) $$ [Hf3 HO]
  · isplitl [Hf3]; · iexact Hf3
    isplitl [HO]; · iexact HO
    iapply (Transfers.MayWaits.elim (SemLoc.dma cc2_scratch5.sem)) $$ Hmw
  iintro ⟨⟨Hr3, Ht3, Hs3⟩, H3, HO⟩
  ihave Hr3' := (Entails.of_eq (pointsTo_congr (fun y hy => gather_val tb ix hix (wL L) k 3 _ _ (sR_in ix hix (wL L) k 3) y hy))) $$ Hr3
  iapply (Transfers.wp_dmaBatch countersEmb 𝒱₀ (tV' d L) none (src := rB 3) (dst := oB L k 3) (default : HIx 1) NW rfl subset_rfl
    (D := outD tb ix d L k) (j := 3) (u := 0) (by decide) (Nat.zero_le _)
    (sep_mono_left (Entails.of_eq (pointsTo_congr (fun x hx => copy_val tb ix L k 3 _ x hx))))) $$ [Hr3' Ho3 HB]
  · isplitl [Hr3']; · iexact Hr3'
    isplitl [Ho3]; · iexact Ho3
    iexact HB
  iintro HB
  iapply (Transfers.wp_waitBatchO countersEmb 𝒱₀ (tV' d L) none (default : HIx 1) (dstw := oB L k 0) (N := NW) rfl (D := outD tb ix d L k) (u := 0 * NW) (show 0 * NW + NW < NW * 4 by decide)) $$ [HB HO]
  · isplitl [HB]; · iexact HB
    isplitl [HO]; · iexact HO
    iapply (Transfers.MayWaits.elim (SemLoc.dma cc2_scratch6.sem)) $$ Hmw
  iintro ⟨HB, HO⟩
  iapply (Transfers.wp_waitBatchO countersEmb 𝒱₀ (tV' d L) none (default : HIx 1) (dstw := oB L k 1) (N := NW) rfl (D := outD tb ix d L k) (u := 1 * NW) (show 1 * NW + NW < NW * 4 by decide)) $$ [HB HO]
  · isplitl [HB]; · iexact HB
    isplitl [HO]; · iexact HO
    iapply (Transfers.MayWaits.elim (SemLoc.dma cc2_scratch6.sem)) $$ Hmw
  iintro ⟨HB, HO⟩
  iapply (Transfers.wp_waitBatchO countersEmb 𝒱₀ (tV' d L) none (default : HIx 1) (dstw := oB L k 2) (N := NW) rfl (D := outD tb ix d L k) (u := 2 * NW) (show 2 * NW + NW < NW * 4 by decide)) $$ [HB HO]
  · isplitl [HB]; · iexact HB
    isplitl [HO]; · iexact HO
    iapply (Transfers.MayWaits.elim (SemLoc.dma cc2_scratch6.sem)) $$ Hmw
  iintro ⟨HB, HO⟩
  iapply (Transfers.wp_waitBatchLastO countersEmb 𝒱₀ (tV' d L) none (default : HIx 1) (dstw := oB L k 3) (N := NW) rfl (show 0 < NW by decide) (D := outD tb ix d L k) (u := 3 * NW) (show 3 * NW + NW = NW * 4 by decide)) $$ [HB HO]
  · isplitl [HB]; · iexact HB
    isplitl [HO]; · iexact HO
    iapply (Transfers.MayWaits.elim (SemLoc.dma cc2_scratch6.sem)) $$ Hmw
  iintro ⟨HD, HW, HO⟩
  ihave HD' := (Entails.of_eq (bigSep_four (outD tb ix d L k))) $$ HD
  unfold outD
  icases HD' with ⟨⟨Ho0, Hr0⟩, ⟨Ho1, Hr1⟩, ⟨Ho2, Hr2⟩, Ho3, Hr3⟩
  simp only [ret_bind']
  sl_step
  isplitr; · iexact Hmw
  isplitl [Ht0 Ht1 Ht2 Ht3]
  · iapply (Entails.of_eq (leaves4 _).symm)
    isplitl [Ht0]; · iexact Ht0
    isplitl [Ht1]; · iexact Ht1
    isplitl [Ht2]; · iexact Ht2
    iexact Ht3
  isplitl [Hs0 Hs1 Hs2 Hs3 Hsr]
  · iapply (Entails.of_eq (cutS d L k _).symm)
    isplitl [Hs0]; · iexact Hs0
    isplitl [Hs1]; · iexact Hs1
    isplitl [Hs2]; · iexact Hs2
    isplitl [Hs3]; · iexact Hs3
    iexact Hsr
  isplitl [Hr0 Hr1 Hr2 Hr3 Hrr]
  · iapply (rowsBack tb ix d L k.val fr)
    isplitl [Hr0]; · iexact Hr0
    isplitl [Hr1]; · iexact Hr1
    isplitl [Hr2]; · iexact Hr2
    isplitl [Hr3]; · iexact Hr3
    iexact Hrr
  isplitl [Ho0 Ho1 Ho2 Ho3 Hor]
  · iapply (outBack tb ix o0 d L k)
    isplitl [Ho0]; · iexact Ho0
    isplitl [Ho1]; · iexact Ho1
    isplitl [Ho2]; · iexact Ho2
    isplitl [Ho3]; · iexact Ho3
    iexact Hor
  isplitl [H0]; · iexact H0
  isplitl [H1]; · iexact H1
  isplitl [H2]; · iexact H2
  isplitl [H3]; · iexact H3
  isplitl [HW]; · iexact HW
  iexists _; isplitr
  swap; · iexact HO
  ipureintro; intro p hp
  simp only [Finset.mem_insert] at hp
  rcases hp with hp | hp | hp | hp | hp | hp | hp | hp | hp
  all_goals first | exact hW' p hp | exact .inr (hp ▸ rfl)

/-- The loop makes ten trips. -/
theorem trips_eq : k2_t1_loop.trips = 10 := by decide

/-! ## The tile's own cells and scratch buffers -/

/-- The tile's own semaphores at zero, the six that it uses named. -/
theorem ownSems0_V :
    (ownSems0 (tV' d L) : sProp 𝕄)
      = iprop(semVal (cell0 d L) 0 ∗ semVal (cell1 d L) 0 ∗ semVal (cell2 d L) 0 ∗ semVal (cell3 d L) 0 ∗ semVal (cellW d L) 0 ∗ semVal (cellF d L) 0
          ∗ bigSep (((((((ownCells (tV' d L)).erase (cell0 d L)).erase (cell1 d L)).erase (cell2 d L)).erase (cell3 d L)).erase (cellW d L)).erase (cellF d L))
              fun g => semVal g 0) := by
  have own : ∀ (s : DmaSem sig), (SemLoc.dma s : SemLoc sig).isScoped .scVector = true → ((tV' d L, SemLoc.dma s) : GSem nD τ sig) ∈ ownCells (tV' d L) :=
    fun s h => mem_ownCells.mpr ⟨rfl, h⟩
  have ne : ∀ (a b : DmaSem sig), a ≠ b → ((tV' d L, SemLoc.dma a) : GSem nD τ sig) ≠ (tV' d L, SemLoc.dma b) := fun a b h e => h (by simpa using e)
  unfold SparseCore.Cfg.ownSems0
  rw [SparseCore.bigSep_erase' (own cc2_scratch2.sem (by decide)),
    SparseCore.bigSep_erase' (Finset.mem_erase.mpr ⟨ne cc2_scratch3.sem _ (by decide), own _ (by decide)⟩),
    SparseCore.bigSep_erase' (Finset.mem_erase.mpr ⟨ne cc2_scratch4.sem _ (by decide), Finset.mem_erase.mpr ⟨ne cc2_scratch4.sem _ (by decide), own _ (by decide)⟩⟩),
    SparseCore.bigSep_erase' (Finset.mem_erase.mpr ⟨ne cc2_scratch5.sem _ (by decide), Finset.mem_erase.mpr ⟨ne cc2_scratch5.sem _ (by decide),
      Finset.mem_erase.mpr ⟨ne cc2_scratch5.sem _ (by decide), own _ (by decide)⟩⟩⟩),
    SparseCore.bigSep_erase' (Finset.mem_erase.mpr ⟨ne cc2_scratch6.sem _ (by decide), Finset.mem_erase.mpr ⟨ne cc2_scratch6.sem _ (by decide),
      Finset.mem_erase.mpr ⟨ne cc2_scratch6.sem _ (by decide), Finset.mem_erase.mpr ⟨ne cc2_scratch6.sem _ (by decide), own _ (by decide)⟩⟩⟩⟩),
    SparseCore.bigSep_erase' (Finset.mem_erase.mpr ⟨ne cc2_scoped0.sem _ (by decide), Finset.mem_erase.mpr ⟨ne cc2_scoped0.sem _ (by decide),
      Finset.mem_erase.mpr ⟨ne cc2_scoped0.sem _ (by decide), Finset.mem_erase.mpr ⟨ne cc2_scoped0.sem _ (by decide),
        Finset.mem_erase.mpr ⟨ne cc2_scoped0.sem _ (by decide), own _ (by decide)⟩⟩⟩⟩⟩)]

/-- The tile's own buffers, the two that it uses named. -/
theorem ownBufs_V :
    (ownBufs (tV' d L) : sProp 𝕄)
      = iprop((∃ f, (tV' d L).loc cc2_scratch0 ↦{fullShare} f) ∗ (∃ f, (tV' d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- The slice of the table that the tile names is the table. -/
theorem tAll_set : (tAll).view.set = Finset.univ := by
  ext x
  rw [show (tAll).view.set = _ from View.set_slice_whole _ _, Rect.mem_set_unit]
  refine ⟨fun _ => Finset.mem_univ _, fun _ a => ?_⟩
  fin_cases a
  · exact ⟨Nat.zero_le _, (x 0).isLt⟩
  · exact ⟨Nat.zero_le _, (x 1).isLt⟩

/-- Before the first trip the tile's rows are as they were. -/
theorem partly_start (x : S163840x128.Idx) (hx : x ∈ oset (wL L)) : o0 x = partly tb ix o0 (5120 * (wL L).val + 512 * 0) x := by
  unfold partly; rw [if_neg (by have := mem_oset.1 hx; omega)]
/-- After the last trip the tile's rows are the gathered ones. -/
theorem partly_end (x : S163840x128.Idx) (hx : x ∈ oset (wL L)) : partly tb ix o0 (5120 * (wL L).val + 512 * k2_t1_loop.trips) x = gathered tb ix x := by
  unfold partly gathered; rw [trips_eq, if_pos (by have := mem_oset.1 hx; omega)]

/-! ## The tile -/

variable (tbs : Dev nD → S2097152x128.Idx → Elt F .f32) (ixs : Dev nD → S1280x128.Idx → BitVec 32) (o0s : Dev nD → S163840x128.Idx → Elt F .f32)

set_option maxHeartbeats 4000000 in
/-- The whole tile: from its shares of the table and of the list and its rows of the result, it brings the rows back
    gathered. -/
theorem tile_body (hF : (K (F := F)).Facts) (hix : ∀ x, (ixs d x).toNat < 2097152) (O : CellTallies nD τ sig (HIx 1)) (W : Waits sig (HIx 1)) (hO : ∀ g, O g none = 0) :
    iprop(levAts (K (F := F)).L (K (F := F)).lev ∗ emp ∗ goP tbs ixs o0s d (wL L)
        ∗ scopedBufs (tV' d L) ∗ scopedSems0 (tV' d L) ∗ owes (tV' d L) O W)
      ⊢ wp frame (wpE (defs₀ (F := F)) 𝒱₀ (tV' d L) none) Set.univ
          (cc2__gather_kernel L tV (Memref.isWhole_whole _) xV (Memref.isWhole_whole _) oV (Memref.isWhole_whole _)
            sV (Memref.isWhole_whole _) rV (Memref.isWhole_whole _) cc2_scratch2 cc2_scratch3 cc2_scratch4 cc2_scratch5 cc2_scratch6 cc2_scoped0)
          fun _ => iprop(tdP tbs ixs d (wL L) ∗ scopedBufs (tV' d L) ∗ scopedSems0 (tV' d L)
            ∗ ∃ W', ⌜∀ p ∈ W', p ∈ W ∨ p.2 = none⌝ ∗ owes (tV' d L) O W') := by
  simp only [cc2__gather_kernel_eq_skeleton]; unfold cc2__gather_kernel_skel
  rw [(K (F := F)).scopedBufs_V hF d (cV L) (jV L), SparseCore.Cfg.scopedSems0_V (Val := Elt F) d (cV L) (jV L), ownSems0_V, ownBufs_V]
  unfold goP
  iintro ⟨#Hlv, -, ⟨Ht, Hx, Ho⟩, ⟨⟨%fs, Hs⟩, ⟨%fr, Hr⟩, Hbufs⟩, ⟨H0, H1, H2, H3, HW, HF, Hsems⟩, HO⟩
  ihave Hmw := (show levAts (K (F := F)).L (K (F := F)).lev ⊢ Transfers.MayWaits (tV' d L) (default : HIx 1) O from
    (K (F := F)).mayWaits_none (thr := tV' d L) hO) $$ Hlv
  ihave Hx' := (pointsTo_split_subset (ℓ := xLoc d) (q := shr (wL L)) (f := (ixs d : Buf (Elt F) (xLoc d))) (S := Finset.univ) (Finset.subset_univ (idxSl L).view.set)).1 $$ Hx
  icases Hx' with ⟨Hx, Hxr⟩
  ihave Hx' := (Entails.of_eq (show (xLoc d ↦[(idxSl L).view.set]{shr (wL L)} (ixs d : Buf (Elt F) (xLoc d)) : sProp 𝕄)
    = (idxSl L).view.loc (tV' d L) ↦[(idxSl L).view.set]{shr (wL L)} (ixs d : Buf (Elt F) (xLoc d)) from rfl)) $$ Hx
  ihave Hs' := (Entails.of_eq (show ((tV' d L).loc cc2_scratch0 ↦{fullShare} fs : sProp 𝕄) = (sV).view.loc (tV' d L) ↦{fullShare} fs from rfl)) $$ Hs
  sl_exec
  have hfetch : ∀ y ∈ (sV).view.set, View.write (Elt F) (sV).view fs (tile_body.sl.dma0 d L ixs) Finset.univ y = sbuf (ixs d) (wL L) y := fun y _ => by
    have e := congrFun (View.read_write_univ (Val := Elt F) (v := (sV).view) fs (tile_body.sl.dma0 d L ixs)) y
    rw [View.read_apply] at e
    exact ((cast_eq _ _).symm.trans e).trans (congrFun (read_idxSl (F := F) (ixs d) L) y)
  ihave Hs2 := (Entails.of_eq (show ((sV).view.loc (tV' d L) ↦{fullShare} View.write (Elt F) (sV).view fs (tile_body.sl.dma0 d L ixs) Finset.univ : sProp 𝕄)
    = (sV).view.loc (tV' d L) ↦[(sV).view.set]{fullShare} (sbuf (ixs d) (wL L) : Buf (Elt F) ((sV).view.loc (tV' d L)))
    from (congrArg (fun S => ((sV).view.loc (tV' d L) ↦[S]{fullShare} View.write (Elt F) (sV).view fs (tile_body.sl.dma0 d L ixs) Finset.univ : sProp 𝕄)) sV_set.symm).trans
      (pointsTo_congr hfetch))) $$ Hs'
  ihave Hr2 := (Entails.of_eq (show ((tV' d L).loc cc2_scratch1 ↦{fullShare} fr : sProp 𝕄) = (rV).view.loc (tV' d L) ↦[(rV).view.set]{fullShare} fr
    from congrArg (fun S => ((tV' d L).loc cc2_scratch1 ↦[S]{fullShare} fr : sProp 𝕄)) rV_set.symm)) $$ Hr
  ihave Ht2 := (Entails.of_eq (show (tPts tbs d (wL L) : sProp 𝕄) = (tAll).view.loc (tV' d L) ↦[(tAll).view.set]{shr (wL L)} (tbs d : Buf (Elt F) ((tAll).view.loc (tV' d L)))
    from congrArg (fun S => (tLoc d ↦[S]{shr (wL L)} (tbs d : Buf (Elt F) (tLoc d)) : sProp 𝕄)) tAll_set.symm)) $$ Ht
  ihave Ho2 := (Entails.of_eq (show (oPts d (wL L) (o0s d) : sProp 𝕄)
    = (oV).view.loc (tV' d L) ↦[oset (wL L)]{fullShare} (partly (tbs d) (ixs d) (o0s d) (5120 * (wL L).val + 512 * 0) : Buf (Elt F) ((oV).view.loc (tV' d L)))
    from pointsTo_congr fun x hx => partly_start (tbs d) (ixs d) (o0s d) L x hx)) $$ Ho
  sl_for (inv (tbs d) (ixs d) (o0s d) d L O W) $$ [Hmw Ht2 Hs2 Hr2 Ho2 H0 H1 H2 H3 HW HO]
  case region =>
    intro k _
    exact trip (tbs d) (ixs d) (o0s d) d L hix O W k _
  · unfold inv
    isplitl [Hmw]; · iexact Hmw
    isplitl [Ht2]; · iexact Ht2
    isplitl [Hs2]; · iexact Hs2
    isplitl [Hr2]; · iexists _; iexact Hr2
    isplitl [Ho2]; · iexact Ho2
    isplitl [H0]; · iexact H0
    isplitl [H1]; · iexact H1
    isplitl [H2]; · iexact H2
    isplitl [H3]; · iexact H3
    isplitl [HW]; · iexact HW
    iexists _; isplitr
    swap; · iexact HO
    ipureintro; intro p hp
    rcases Finset.mem_insert.mp hp with hp | hp; · exact .inr (hp ▸ rfl)
    exact .inl hp
  iintro %_ Hinv
  unfold inv
  icases Hinv with ⟨-, Ht, Hs, ⟨%fr', Hr⟩, Ho, H0, H1, H2, H3, HW, HO⟩
  ihave Ht' := (Entails.of_eq (show (tPts tbs d (wL L) : sProp 𝕄) = (tAll).view.loc (tV' d L) ↦[(tAll).view.set]{shr (wL L)} (tbs d : Buf (Elt F) ((tAll).view.loc (tV' d L)))
    from congrArg (fun S => (tLoc d ↦[S]{shr (wL L)} (tbs d : Buf (Elt F) (tLoc d)) : sProp 𝕄)) tAll_set.symm).symm) $$ Ht
  ihave Ho' := (Entails.of_eq (show ((oV).view.loc (tV' d L) ↦[oset (wL L)]{fullShare} (partly (tbs d) (ixs d) (o0s d) (5120 * (wL L).val + 512 * k2_t1_loop.trips) : Buf (Elt F) ((oV).view.loc (tV' d L))) : sProp 𝕄)
    = oPts d (wL L) (gathered (tbs d) (ixs d))
    from pointsTo_congr fun x hx => partly_end (tbs d) (ixs d) (o0s d) L x hx)) $$ Ho
  sl_step
  unfold tdP
  isplitl [Ht' Hxr Ho']
  · isplitl [Ht']; · iexact Ht'
    isplitl [Hxr]; · iexact Hxr
    iexact Ho'
  isplitl [Hs Hr Hbufs]
  · isplitl [Hs]
    · iexists _; iapply (Entails.of_eq (congrArg (fun S => ((sV).view.loc (tV' d L) ↦[S]{fullShare} (sbuf (ixs d) (wL L) : Buf (Elt F) ((sV).view.loc (tV' d L))) : sProp 𝕄)) sV_set)); iexact Hs
    isplitl [Hr]
    · iexists _; iapply (Entails.of_eq (congrArg (fun S => ((rV).view.loc (tV' d L) ↦[S]{fullShare} fr' : sProp 𝕄)) rV_set)); iexact Hr
    iexact Hbufs
  isplitl [H0 H1 H2 H3 HW HF Hsems]
  · isplitl [H0]; · iexact H0
    isplitl [H1]; · iexact H1
    isplitl [H2]; · iexact H2
    isplitl [H3]; · iexact H3
    isplitl [HW]; · iexact HW
    isplitl [HF]; · iexact HF
    iexact Hsems
  iexact HO

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

/-- What a tile runs is the gather's body at its coordinates. -/
theorem defs₀_vector (c : Fin τ.nSC) (s : Fin τ.nSub) :
    defs₀ (F := F) (.scVector c s) 2 ()
      = SparseCore.onTile hcore2 hsub2 (fun c s => cc2__gather_kernel (coordsV c s) tV (Memref.isWhole_whole _) xV (Memref.isWhole_whole _) oV (Memref.isWhole_whole _)
            sV (Memref.isWhole_whole _) rV (Memref.isWhole_whole _) cc2_scratch2 cc2_scratch3 cc2_scratch4 cc2_scratch5 cc2_scratch6 cc2_scoped0) ⟨⟩ c s := rfl

/-- A tile that waited only locally has waited no more than its call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation: each vector subcore runs its tile. -/
theorem tileObl (hF : (K (F := F)).Facts) (hix : ∀ d x, (ixs d x).toNat < 2097152) : (K (F := F)).TileObl (D (F := F)) 𝒱 (P tbs ixs o0s) v₀ 0 := by
  intro d c i O W hO _ _
  simp only [show (P tbs ixs o0s).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tbs ixs o0s hF (hix d) O W hO).trans (wp_mono frame _ _ fun _ => obl_post)

end Tile

end Cert.Proof.KI

end
-- ==== Proof.KI.Main.lean ====
/-
  @main on the TensorCore: the three kernels' regions, the host operations between them and the SparseCore call, each
  taking the buffers from one valuation to the next.
-/
module

public import proofs.«01_k».proof.Proof.KI.Vals
public import proofs.«01_k».proof.Proof.KI.Call
public import proofs.«01_k».proof.Proof.KI.Tile

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- The host operations before the gather touch only buffers that the host holds. -/
theorem sub1 : ∀ op ∈ ops1 (F := F), op.bufs ⊆ Pipeline.ucRefs τ sig := by
  intro op h
  simp only [ops1, List.mem_cons, List.not_mem_nil, or_false] at h
  refine Pipeline.sub_ucRefs op ?_
  rcases h with rfl | rfl | rfl | rfl | rfl | rfl | rfl | rfl <;> simp
/-- The host operation after the gather touches only buffers that the host holds. -/
theorem sub2 : ∀ op ∈ ops2 (F := F), op.bufs ⊆ Pipeline.ucRefs τ sig := by
  intro op h
  simp only [ops2, List.mem_cons, List.not_mem_nil, or_false] at h
  refine Pipeline.sub_ucRefs op ?_
  rcases h with rfl; simp
/-- The last host operations touch only buffers that the host holds. -/
theorem sub3 : ∀ op ∈ ops3 (F := F), op.bufs ⊆ Pipeline.ucRefs τ sig := by
  intro op h
  simp only [ops3, List.mem_cons, List.not_mem_nil, or_false] at h
  refine Pipeline.sub_ucRefs op ?_
  rcases h with rfl | rfl | rfl | rfl | rfl | rfl | rfl | rfl <;> simp
/-- The host operations before the gather take no fresh buffer. -/
theorem fresh1 : ∀ op ∈ ops1 (F := F), op.fresh = ∅ := by
  intro op h
  simp only [ops1, List.mem_cons, List.not_mem_nil, or_false] at h
  rcases h with rfl | rfl | rfl | rfl | rfl | rfl | rfl | rfl <;> rfl
/-- The host operation after the gather takes no fresh buffer. -/
theorem fresh2 : ∀ op ∈ ops2 (F := F), op.fresh = ∅ := by
  intro op h
  simp only [ops2, List.mem_cons, List.not_mem_nil, or_false] at h
  rcases h with rfl; rfl
/-- The last host operations take no fresh buffer. -/
theorem fresh3 : ∀ op ∈ ops3 (F := F), op.fresh = ∅ := by
  intro op h
  simp only [ops3, List.mem_cons, List.not_mem_nil, or_false] at h
  rcases h with rfl | rfl | rfl | rfl | rfl | rfl | rfl | rfl <;> rfl

/-- A stretch of host operations takes the unscoped buffers to what the operations leave. -/
theorem wp_ops (d : Dev nD) (ops : List (HloOp τ sig (Elt F))) (hS : ∀ op ∈ ops, op.bufs ⊆ Pipeline.ucRefs τ sig) (hf : ∀ op ∈ ops, op.fresh = ∅)
    (V : Vals F) (Φ : PUnit → sProp 𝕄) :
    iprop(boundary (T d) ∗ StableHlo.held (T d) (Pipeline.ucRefs τ sig) V
        ∗ (iprop(boundary (T d) ∗ StableHlo.held (T d) (Pipeline.ucRefs τ sig) (StableHlo.after ops V)) -∗ Φ ⟨⟩))
      ⊢ wp frame (wpE ((K (F := F)).defs (D (F := F))) 𝒱 (T d) none) Set.univ (StableHlo.seq ops) Φ := by
  have h := StableHlo.wp_seq (defs := (K (F := F)).defs (D (F := F))) 𝒱 none Set.univ d (Pipeline.ucRefs τ sig) (fun _ => Prog.ret PUnit.unit) (K := Φ) ops hS hf V
  rw [show (StableHlo.seq ops >>= fun _ => (Prog.ret PUnit.unit : Prog (TpuEff nD τ sig (Elt F) _ .tc) PUnit)) = StableHlo.seq ops from bind_pure _] at h
  iintro ⟨Hb, Hh, Hk⟩
  ihave H := h $$ [Hb Hh]
  · isplitl [Hb] <;> iassumption
  iapply H
  iintro ⟨Hb, Hh⟩
  rw [wp_ret]
  imodintro
  iapply Hk
  isplitl [Hb] <;> iassumption

/-! ## The regions -/

/-- What a core holds of the regions' ghost state, one part per region. -/
def ghost (p : Fin 3) (d : Dev nD) : sProp 𝕄 :=
  iprop(Pipeline.cellsGhost (Pipeline.pin (pcfgs (F := F)) adm) EP p d ∗ Pipeline.toksInit (Pipeline.pin (pcfgs (F := F)) adm) EP p d)

set_option backward.isDefEq.respectTransparency.types false in
/-- A region entered from @main takes the buffers from its entry valuation to its exit one. -/
theorem wp_region [∀ e, Nonempty (Elt F e)] (m : (ℓ : Loc nD τ sig) → Buf (Elt F) ℓ) (p : Fin 3) (n : ℕ) (V V' : (c : Dev nD) → Vals F)
    (R : Pipeline.RegionSeg (pcfgs (F := F)) adm (datsM m) none defs₀ 𝒱₀ (K (F := F)).L (K (F := F)).lev p)
    (hpre : R.pre = tcAt n V) (hpost : R.post = tcAt n V') (Pay : (K (F := F)).Pay (nD := nD) (Val := Elt F) (Name := ℕ) (U := UU)) (κ : GSem nD τ sig → ℕ) (d : Dev nD) (Φ : PUnit → sProp 𝕄) :
    iprop((K (F := F)).ctx EH Pay κ ∗ boundary (T d) ∗ StableHlo.held (T d) (Pipeline.ucRefs τ sig) (V d) ∗ (K (F := F)).tcSt EH d n ∗ ghost p d
        ∗ (iprop(boundary (T d) ∗ StableHlo.held (T d) (Pipeline.ucRefs τ sig) (V' d) ∗ (K (F := F)).tcSt EH d n) -∗ Φ ⟨⟩))
      ⊢ wp frame (wpE ((K (F := F)).defs (D (F := F))) 𝒱 (T d) none) Set.univ (Prog.lift (.customCall (SparseCore.inner (Pipeline.entry p)) ())) Φ := by
  have hw := Pipeline.RegionSeg.wp (pcfgs (F := F)) adm (datsM m) none cellOf_inj EP defs₀ 𝒱₀ (K (F := F)).L (K (F := F)).lev R d none (fun u hu => by cases hu)
    (fun _ => Prog.ret PUnit.unit) Φ
  have hl := (K (F := F)).wp_liftProg (D (F := F)) 𝒱 (T d) Set.univ none (.op (.customCall (Pipeline.entry p) ()) fun _ => Prog.ret PUnit.unit) Φ
  have hh := hw.trans hl
  rw [hpre, hpost] at hh
  unfold tcAt at hh
  unfold SparseCore.Cfg.tcSt ghost
  rw [Pipeline.unscopedBufs_held (Ix := HIx 1) (Name := ℕ) (U := UU) (Lvl := ℕ) d (V d), Pipeline.unscopedBufs_held (Ix := HIx 1) (Name := ℕ) (U := UU) (Lvl := ℕ) d (V' d)] at hh
  iintro ⟨Hctx, Hb, Hh, ⟨HO, Hrest⟩, ⟨Hg, Ht⟩, Hk⟩
  ihave Hlev := (SparseCore.Cfg.ctx_levAts κ) $$ Hctx
  iapply hh
  isplitl [Hk Hrest]
  · iintro ⟨Hb, Hh, HO⟩
    rw [wp_ret]
    imodintro
    iapply Hk
    isplitl [Hb]; · iexact Hb
    isplitl [Hh]; · iexact Hh
    isplitl [HO]; · iexact HO
    iexact Hrest
  isplitl [Hb]; · iexact Hb
  isplitl [Hh HO]
  · isplitl [Hh]; · iexact Hh
    iexact HO
  isplitl [Hlev]; · iexact Hlev
  isplitl [Hg]; · iexact Hg
  iexact Ht

/-! ## The SparseCore call -/

variable (m : (ℓ : Loc nD τ sig) → Buf (Elt F) ℓ)

/-- The call's payload at this memory. -/
abbrev Pm : (K (F := F)).Pay (nD := nD) (Val := Elt F) (Name := ℕ) (U := UU) := P (tbv m) (ixv m) (ov m)

/-- The gather leaves every buffer but its own three as it was. -/
theorem V4_rest (d : Dev nD) : (StableHlo.held (T d) (Pipeline.ucRefs τ sig \ callRefs) (V4 m d) : sProp 𝕄) = StableHlo.held (T d) (Pipeline.ucRefs τ sig \ callRefs) (V3 m d) :=
  StableHlo.held_congr _ fun b hb => by
    unfold V4 setW
    refine Function.update_of_ne (fun h => (Finset.mem_sdiff.mp hb).2 ?_) _ _
    rw [h]; unfold callRefs; simp

/-- The call takes the buffers from `V3` to `V4`. -/
theorem wp_call [∀ e, Nonempty (Elt F e)] (κ : GSem nD τ sig → ℕ) (d : Dev nD) (Φ : PUnit → sProp 𝕄) :
    iprop((K (F := F)).ctx EH (Pm m) κ ∗ boundary (T d) ∗ StableHlo.held (T d) (Pipeline.ucRefs τ sig) (V3 m d) ∗ (K (F := F)).tcSt EH d 0
        ∗ (iprop(boundary (T d) ∗ StableHlo.held (T d) (Pipeline.ucRefs τ sig) (V4 m d) ∗ (K (F := F)).tcSt EH d 1) -∗ Φ ⟨⟩))
      ⊢ wp frame (wpE ((K (F := F)).defs (D (F := F))) 𝒱 (T d) none) Set.univ ((K (F := F)).run d 0) Φ := by
  rw [StableHlo.held_sub_split (T d) callRefs_sub (V3 m d), StableHlo.held_sub_split (T d) callRefs_sub (V4 m d), V4_rest, held_call, held_call]
  have e2 : V4 m d (Proc.devRef .tc main_v2) = V3 m d (Proc.devRef .tc main_v2) := setW_ne _ main_v8 _ (by decide)
  have e7 : V4 m d (Proc.devRef .tc main_v7) = V3 m d (Proc.devRef .tc main_v7) := setW_ne _ main_v8 _ (by decide)
  have e8 : V4 m d (Proc.devRef .tc main_v8) = gathered (tbv m d) (ixv m d) := setW_self _ _ _
  rw [e2, e7, e8]
  have hst := Entails.of_eq (st_eq (tbv m) (ixv m) (ov m) d).symm
  have hdn := Entails.of_eq (dn_eq (tbv m) (ixv m) (ov m) d)
  iintro ⟨Hctx, Hb, ⟨Hcall, Hrest⟩, Hst, Hk⟩
  iapply ((K (F := F)).wp_run (D (F := F)) 𝒱 (EH := EH) (P := Pm m) κ d 0)
  isplitl [Hctx]; · iexact Hctx
  isplitl [Hst]; · iexact Hst
  isplitl [Hcall]
  · iapply hst; iexact Hcall
  iintro ⟨Hst, Hdn⟩
  ihave Hdn' := hdn $$ Hdn
  iapply Hk
  isplitl [Hb]; · iexact Hb
  isplitl [Hdn' Hrest]
  · isplitl [Hdn']; · iexact Hdn'
    iexact Hrest
  iexact Hst

/-! ## @main -/

/-- The host program, as its calls and its stretches of host operations in turn. -/
theorem main_eq (d : Dev nD) : main (F := F) d = (do
    Prog.lift (.customCall (SparseCore.inner (Pipeline.entry 0)) ())
    Prog.lift (.customCall (SparseCore.inner (Pipeline.entry 1)) ())
    StableHlo.seq ops1
    (K (F := F)).run d 0
    StableHlo.seq ops2
    Prog.lift (.customCall (SparseCore.inner (Pipeline.entry 2)) ())
    StableHlo.seq ops3) := by
  unfold main
  simp only [ops1, ops2, ops3, StableHlo.seq, bind_assoc, pure_bind, bind_pure_unit]

variable (ρ : Dev nD → PrngReg)

/-- What the core starts its regions from, and what it ends holding. -/
def G (d : Dev nD) : sProp 𝕄 := iprop(ghost 0 d ∗ ghost 1 d ∗ ghost 2 d)
def FIN (d : Dev nD) : sProp 𝕄 := StableHlo.held (T d) (Pipeline.ucRefs τ sig) (V7 m d)

/-- The launch memory, as a held set. -/
theorem held_launch (d : Dev nD) : (unscopedBufs d (fun b => m ((SparseCore.T d).loc b)) : sProp 𝕄) = StableHlo.held (T d) (Pipeline.ucRefs τ sig) (V0 m d) := by
  unfold V0
  rw [show (unscopedBufs d (fun b => m ((SparseCore.T d).loc b)) : sProp 𝕄) = unscopedBufs d (fun b => (fun b' => m (d, b') : Vals F) (Proc.devRef .tc b)) from rfl]
  exact Pipeline.unscopedBufs_held (Ix := HIx 1) (Name := ℕ) (U := UU) (Lvl := ℕ) d (fun b => m (d, b))

set_option backward.isDefEq.respectTransparency.types false in
/-- @main: the buffers go from the launch memory through every stage to `V7`. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd FIN G
  rw [main_eq, held_launch]
  simp only [wp_bind]
  iintro ⟨#Hctx, Hst, ⟨Hb, Hh, Hts, -⟩, ⟨Hg0, Hg1, Hg2⟩⟩
  iapply (wp_region m 0 0 (V0 m) (V1 m) (seg0 m) rfl rfl (Pm m) κ d _)
  isplitr; · iexact Hctx
  isplitl [Hb]; · iexact Hb
  isplitl [Hh]; · iexact Hh
  isplitl [Hst]; · iexact Hst
  isplitl [Hg0]; · iexact Hg0
  iintro ⟨Hb, Hh, Hst⟩
  iapply (wp_region m 1 0 (V1 m) (V2 m) (seg1 m) rfl rfl (Pm m) κ d _)
  isplitr; · iexact Hctx
  isplitl [Hb]; · iexact Hb
  isplitl [Hh]; · iexact Hh
  isplitl [Hst]; · iexact Hst
  isplitl [Hg1]; · iexact Hg1
  iintro ⟨Hb, Hh, Hst⟩
  iapply (wp_ops d ops1 sub1 fresh1 (V2 m d) _)
  isplitl [Hb]; · iexact Hb
  isplitl [Hh]; · iexact Hh
  iintro ⟨Hb, Hh⟩
  iapply (wp_call m κ d _)
  isplitr; · iexact Hctx
  isplitl [Hb]; · iexact Hb
  isplitl [Hh]; · iexact Hh
  isplitl [Hst]; · iexact Hst
  iintro ⟨Hb, Hh, Hst⟩
  iapply (wp_ops d ops2 sub2 fresh2 (V4 m d) _)
  isplitl [Hb]; · iexact Hb
  isplitl [Hh]; · iexact Hh
  iintro ⟨Hb, Hh⟩
  iapply (wp_region m 2 1 (V5 m) (V6 m) (seg3 m) rfl rfl (Pm m) κ d _)
  isplitr; · iexact Hctx
  isplitl [Hb]; · iexact Hb
  isplitl [Hh]; · iexact Hh
  isplitl [Hst]; · iexact Hst
  isplitl [Hg2]; · iexact Hg2
  iintro ⟨Hb, Hh, Hst⟩
  iapply (wp_ops d ops3 sub3 fresh3 (V6 m d) _)
  isplitl [Hb]; · iexact Hb
  isplitl [Hh]; · iexact Hh
  iintro ⟨Hb, Hh⟩
  isplitl [Hst]; · iexact Hst
  isplitl [Hh]; · iexact Hh
  isplitl [Hb] <;> iassumption

/-! ## The launch's ghost state -/

/-- A conjunction of nothings is nothing. -/
theorem bigSep_emp' {I : Type} (s : Finset I) : (bigSep s fun _ => iprop(emp)) = (iprop(emp) : sProp 𝕄) := bigSep_emp_const s

set_option backward.isDefEq.respectTransparency.types false in
/-- The launch element: the handshakes' rounds and the three pipelines'. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

set_option backward.isDefEq.respectTransparency.types false in
/-- The launch's ghost state splits into the handshakes' and the pipelines' parts. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  have hp := ownU_pair (nD := nD) (τ := τ) (sig := sig) (Ix := HIx 1) (Val := Elt F) (Name := ℕ) (Lvl := ℕ)
    (initOf (K (F := F)).hsCells (K (F := F)).hsToks : UH)
    ((initOf (Pipeline.cells (nD := nD) (τ := τ) (Pipeline.pin (pcfgs (F := F)) adm) cellOf_inj) (Pipeline.launchToks (nD := nD) (τ := τ) (Pipeline.pin (pcfgs (F := F)) adm) cellOf_inj), 1) : UP × Counters)
  have hq := own_pair_emb (embR : Emb (UP × Counters) (MT nD τ sig (HIx 1) (Elt F) ℕ UU ℕ))
    (initOf (Pipeline.cells (nD := nD) (τ := τ) (Pipeline.pin (pcfgs (F := F)) adm) cellOf_inj) (Pipeline.launchToks (nD := nD) (τ := τ) (Pipeline.pin (pcfgs (F := F)) adm) cellOf_inj)) (1 : Counters)
  rw [show (Emb.inl : Emb UP (UP × Counters)).trans (embR : Emb (UP × Counters) (MT nD τ sig (HIx 1) (Elt F) ℕ UU ℕ)) = EP from rfl] at hq
  have hf := Pipeline.fund_ghost (nD := nD) (τ := τ) (Pipeline.pin (pcfgs (F := F)) adm) (EP (F := F)) cellOf_inj
  have hG : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
      = (bigSep Finset.univ fun d : Dev nD => G (F := F) d : sProp 𝕄) := by
    rw [← bigSep_sep']
    refine bigSep_congr fun d _ => ?_
    rw [← bigSep_sep']
    show (bigSep Finset.univ fun p : Fin 3 => ghost (F := F) p d) = G d
    unfold G
    rw [show (Finset.univ : Finset (Fin 3)) = {0, 1, 2} by decide, SparseCore.bigSep_insert' (by decide), SparseCore.bigSep_insert' (by decide), bigSep_singleton]
  unfold u₀
  iintro Hu
  ihave H := hp $$ Hu
  icases H with ⟨HH, HR⟩
  ihave H := hq $$ HR
  icases H with ⟨HP, -⟩
  ihave H := hf $$ HP
  imod H
  ihave HG := (Entails.of_eq hG) $$ H
  imodintro
  isplitl [HH]; · iexact HH
  isplitl [HG]; · iexact HG
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## The run -/

/-- At the end every unscoped buffer of a TensorCore holds what `V7` says. -/
def fq (d : Dev nD) (s' : Phys nD τ sig (Elt F)) : Prop := ∀ b ∈ Pipeline.ucRefs τ sig, s'.mem.mem (d, b) = V7 m d b

/-- What the host holds at the end says what the memory then is. -/
theorem hfin (d : Dev nD) (s' : Phys nD τ sig (Elt F)) : iprop(FIN m d ∗ SI s') ⊢ (⌜fq m d s'⌝ : sProp 𝕄) := by
  have h1 : ∀ b : DevRef τ sig, b ∈ Pipeline.ucRefs τ sig → iprop(FIN m d ∗ SI s') ⊢ (⌜s'.mem.mem (d, b) = V7 m d b⌝ : sProp 𝕄) := by
    intro b hb
    unfold FIN StableHlo.held
    rw [show (bigSep (Pipeline.ucRefs τ sig) fun b => (((SparseCore.T d).1, b) ↦{fullShare} V7 m d b) : sProp 𝕄) = iprop(((d, b) ↦{fullShare} V7 m d b) ∗ bigSep ((Pipeline.ucRefs τ sig).erase b) fun b => ((d, b) ↦{fullShare} V7 m d b)) from bigSep_erase hb]
    iintro ⟨⟨Hb, -⟩, HSI⟩
    ihave H := (SI_pointsTo_agree (st := s') (ℓ := (d, b)) (I := Finset.univ) (q := fullShare) (f := V7 m d b)) $$ [HSI Hb]
    · isplitl [HSI]; · iexact HSI
      iexact Hb
    icases H with %h
    ipureintro
    exact funext fun i => h i (Finset.mem_univ i)
  unfold fq
  refine (sProp.forall_intro fun b => ?_).trans (pure_forall (PROP := sProp 𝕄)).2
  refine (sProp.forall_intro fun hb => h1 b hb).trans (pure_forall (PROP := sProp 𝕄)).2

end Cert.Proof.KI

end
-- ==== Proof.KI.Run.lean ====
/-
  The whole program's run: every weakly fair execution ends with each TensorCore's buffers at `V7` of the launch memory,
  and every semaphore at zero.
-/
module

public import proofs.«01_k».proof.Proof.KI.Main

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the host operations leave -/

/-- The table that the gather reads is the similarity call's first result, reshaped. -/
theorem V3_v2 (c : Dev nD) : tbv m c = shapeCast S2097152x128 (V2 m c (Proc.devRef .tc main_v1_0) : S128x16384x128.Idx → Elt F .f32) shapeCasts_S128x16384x128_S2097152x128 := by
  unfold tbv V3 ops1
  after_results_simp
  rfl

/-- The rows of the table that the call gathers, one list per rank, clamped to the table. -/
theorem V3_v7 (c : Dev nD) : ixv m c = shapeCast S1280x128 (transpose S10x16384 [1, 0]
    (minsi (maxsi (V2 m c (Proc.devRef .tc main_v1_2) : S16384x10.Idx → BitVec 32) (broadcastInDim S16384x10 ![] bcast_S_S16384x10 (constantI S_ 32 0#32)))
      (broadcastInDim S16384x10 ![] bcast_S_S16384x10 (constantI S_ 32 2097151#32))) transposes_S16384x10_S10x16384_1_0) shapeCasts_S10x16384_S1280x128 := by
  unfold ixv V3 ops1
  after_results_simp
  rfl

/-- A clamped word names a row of the table. -/
theorem clamp_lt (x : BitVec 32) : (IntOp.minsi (IntOp.maxsi x 0#32) 2097151#32).toNat < 2097152 := by
  simp only [IntOp.minsi, IntOp.maxsi, BitVec.sle_eq_decide, BitVec.slt_eq_decide]
  split <;> split <;> simp_all [BitVec.toInt_eq_toNat_cond] <;> omega

/-- Every entry of the gather's list names a row of the table. -/
theorem hix (d : Dev nD) (x : S1280x128.Idx) : (ixv m d x).toNat < 2097152 := by
  rw [V3_v7]
  exact clamp_lt _

/-- The whole program runs to its end, every semaphore at zero, and every unscoped buffer holds what `V7` says. -/
theorem run_main [∀ e, Nonempty (Elt F e)] :
    θ_run (defs (F := F)) (threads (F := F)) ⟨m, fun _ => 0, ρ⟩
      (fun r => (∀ d : Dev nD, ∀ b ∈ Pipeline.ucRefs τ sig, r.2.mem (d, b) = V7 m d b) ∧ r.2.sem = fun _ => 0) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tbv m) (ixv m) (ov m) facts (hix m))
    (fun q _ => match q with | 0 => SparseCore.Cfg.VecSplit.of_plain (vecSplit (tbv m) (ixv m) (ov m)))
    m ρ main G (FIN m) (u₀ (F := F)) (sep_elim_left.trans (hu₀ m)) (hmain m ρ) (fq m) (hfin m) _ (fun _ h hz => ⟨h, hz⟩)

/-- A buffer that no scope holds is among those that the host holds. -/
theorem mem_uc (b : Ref sig .tc) (h : (Proc.devRef (τ := τ) .tc b).isScoped = false) : Proc.devRef .tc b ∈ Pipeline.ucRefs τ sig :=
  Finset.mem_filter.mpr ⟨Finset.mem_map.mpr ⟨b, Finset.mem_univ _, rfl⟩, by simp [h]⟩

/-- The argument is what it was. -/
theorem V7_arg0 (c : Dev nD) : V7 m c (Proc.devRef .tc main_arg0) = m ((c.tc : Thread nD τ).loc main_arg0) := by
  have h7 : V7 m c (Proc.devRef .tc main_arg0) = V6 m c (Proc.devRef .tc main_arg0) := by
    unfold V7 ops3; after_results_simp
  have h5 : V5 m c (Proc.devRef .tc main_arg0) = V4 m c (Proc.devRef .tc main_arg0) := by
    unfold V5 ops2; after_results_simp
  have h3 : V3 m c (Proc.devRef .tc main_arg0) = V2 m c (Proc.devRef .tc main_arg0) := by
    unfold V3 ops1; after_results_simp
  rw [h7, V6_ne m c (r := main_arg0) (by decide) (by decide) (by decide), h5,
    show V4 m c (Proc.devRef .tc main_arg0) = V3 m c (Proc.devRef .tc main_arg0) from setW_ne _ main_v8 _ (by decide), h3,
    V2_ne m c (r := main_arg0) (by decide) (by decide) (by decide), V1_ne m c (r := main_arg0) (by decide)]
  rfl

end Cert.Proof.KI

end
-- ==== Proof.KB.SimBody.lean ====
/-
  The similarity kernel's body at one grid point: what it leaves in its three result blocks.
-/
module

public import proofs.«01_k».proof.Proof.KB.Setup

@[expose] public section

noncomputable section

namespace Cert.Proof.KB

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A buffer's contents on core `c`, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- The similarity body: from the five blocks held whole it runs to its return, the operands' as they were. -/
noncomputable def simRun (c : Dev nD) (i : grid1.Coords) (M1 : Memref sig .tc .vmem S128x64 .f32) (h1 : M1.IsWhole) (M2 : Memref sig .tc .vmem S16384x64 .f32) (h2 : M2.IsWhole)
    (M3 : Memref sig .tc .vmem S128x128x128 .f32) (h3 : M3.IsWhole) (M4 : Memref sig .tc .vmem S128x10 .i32) (h4 : M4.IsWhole) (M5 : Memref sig .tc .vmem S128x10 .i32) (h5 : M5.IsWhole)
    (f1 : Bf (F := F) c M1) (f2 : Bf (F := F) c M2) :
    { W : Bf (F := F) c M3 × Bf (F := F) c M4 × Bf (F := F) c M5 // ∀ (f3 : Bf (F := F) c M3) (f4 : Bf (F := F) c M4) (f5 : Bf (F := F) c M5) (E : Set ℕ) (Q : PUnit → sProp 𝕄),
        iprop(pt c M1 f1 ∗ pt c M2 f2 ∗ pt c M3 f3 ∗ pt c M4 f4 ∗ pt c M5 f5 ∗ (iprop(pt c M1 f1 ∗ pt c M2 f2 ∗ pt c M3 W.1 ∗ pt c M4 W.2.1 ∗ pt c M5 W.2.2) -∗ Q ⟨⟩))
          ⊢ wp frame (wpE (defs₀ (F := F)) 𝒱₀ (c : Thread nD τ) none) E (cc1__sim_body i M1 h1 M2 h2 M3 h3 M4 h4 M5 h5) Q } := by
  refine ⟨(?_, ?_, ?_), fun f3 f4 f5 E Q => ?run⟩
  case run =>
    iintro ⟨H1, H2, H3, H4, H5, Hk⟩
    sl_exec!
    sl_step
    iapply Hk
    isplitl [H1]; · iexact H1
    isplitl [H2]; · iexact H2
    isplitl [H3]; · iexact H3
    isplitl [H4]; · iexact H4
    iexact H5

end Cert.Proof.KB

end
-- ==== Proof.Frames.lean ====
/-
  The three frames: each program runs, its argument ends unchanged and every semaphore counter at zero. Each is stated
  of every launch memory.
-/
module

public import proofs.«01_k».proof.Defs
public import proofs.«01_k».proof.Proof.KI.Run
public import proofs.«01_k».proof.Proof.KB.Run
public import proofs.«01_k».proof.Proof.Gen.ReferenceIdeal
public import proofs.«01_k».proof.Proof.Gen.ReferenceIdeal.Run
public import Idealize.ShloMosaic.Lib.Quiescent
public import Idealize.ShloMosaic.Lib.Tactic

@[expose] public section

set_option maxRecDepth 16384

noncomputable section

namespace Cert.Proof

open Idealize.ShloMosaic Idealize.SL.Sem Idealize.ShloMosaic.TcCoe

/-- The kernel, at the machine's own float values. -/
theorem frame_P (m : (ℓ : Loc Cert.Kernel.nD Cert.Kernel.τ Cert.Kernel.sig) → Buf (Elt Bits) ℓ) (g : Dev Cert.Kernel.nD → PrngReg) :
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) :=
  (θ_run _ _ _).mono (fun _ h => ⟨fun c => (h.1 c _ (KB.mem_uc Cert.Kernel.main_arg0 (by decide))).trans (KB.V7_arg0 m c), h.2⟩) (KB.run_main m g)

/-- The kernel, at the extended reals. -/
theorem frame_PI (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run _ _ _).mono (fun _ h => ⟨fun c => (h.1 c _ (KI.mem_uc Cert.KernelIdeal.main_arg0 (by decide))).trans (KI.V7_arg0 m c), h.2⟩) (KI.run_main m g)

open Cert.ReferenceIdeal in
/-- The reference, at the extended reals. -/
theorem frame_RI (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2.2.2, sem_eq_zero_of_no_sems (by decide) r.2⟩) (Cert.ReferenceIdeal.Value.run (F := Ideal) m g)

end Cert.Proof

end
-- ==== Proof.Sel.lean ====
/-
  Choosing the greatest entries in order, as mathematics. A SELECTION of `k` entries of `v` names, one after another, the
  entry that is greatest among those not yet named, of equal entries the one whose label is lowest. Rounds of "take the
  greatest, overwrite it with `⊥`" make a selection, and so do two levels: the blocks of the greatest maxima, and then the
  greatest entries of those blocks.
-/
module

public import Mathlib.Data.EReal.Basic
public import Mathlib.Data.Fintype.Card
public import Mathlib.Order.Interval.Finset.Nat

@[expose] public section

namespace Cert.Proof

variable {β : Type}

/-- `a` is taken no later than `b`: the greater value first, of equal values the lower label. -/
def Beats (v : β → EReal) (gl : β → ℕ) (a b : β) : Prop := v b < v a ∨ (v b = v a ∧ gl a ≤ gl b)

/-- Everything is taken no later than itself. -/
theorem Beats.refl (v : β → EReal) (gl : β → ℕ) (a : β) : Beats v gl a a := Or.inr ⟨rfl, le_rfl⟩

/-- The order of taking is transitive. -/
theorem Beats.trans {v : β → EReal} {gl : β → ℕ} {a b c : β} (h : Beats v gl a b) (h' : Beats v gl b c) : Beats v gl a c := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

/-- The first `k` names of `σ` are a selection of `v`, ties by the label `gl`. -/
def IsSel (v : β → EReal) (gl : β → ℕ) (k : ℕ) (σ : ℕ → β) : Prop :=
  ∀ t, t < k → (∀ s, s < t → σ s ≠ σ t) ∧ ∀ b, (∀ s, s < t → σ s ≠ b) → Beats v gl (σ t) b

/-- The names of a selection are different. -/
theorem IsSel.inj {v : β → EReal} {gl : β → ℕ} {k : ℕ} {σ : ℕ → β} (h : IsSel v gl k σ) {s t : ℕ} (hs : s < k) (ht : t < k)
    (e : σ s = σ t) : s = t := by
  rcases lt_trichotomy s t with hlt | he | hlt
  · exact absurd e ((h t ht).1 s hlt)
  · exact he
  · exact absurd e.symm ((h s hs).1 t hlt)

/-- What the rounds leave after `t` of them: `⊥` at the names taken, the entry anywhere else. -/
theorem rounds_contents [DecidableEq β] {V : ℕ → β → EReal} {σ : ℕ → β} {k : ℕ}
    (hstep : ∀ t, t < k → ∀ b, V (t + 1) b = if b = σ t then ⊥ else V t b) (t : ℕ) (ht : t ≤ k) (b : β) :
    ((∃ s, s < t ∧ σ s = b) → V t b = ⊥) ∧ ((∀ s, s < t → σ s ≠ b) → V t b = V 0 b) := by
  induction t with
  | zero => exact ⟨fun ⟨s, hs, _⟩ => absurd hs (by omega), fun _ => rfl⟩
  | succ t ih =>
    have ih := ih (by omega)
    rw [hstep t (by omega) b]
    refine ⟨fun ⟨s, hs, e⟩ => ?_, fun h => ?_⟩
    · split
      · rfl
      · rename_i hne
        refine ih.1 ⟨s, ?_, e⟩
        rcases Nat.lt_succ_iff_lt_or_eq.mp hs with h | h
        · exact h
        · subst h; exact absurd e.symm hne
    · rw [if_neg (fun e => h t (by omega) e.symm)]
      exact ih.2 fun s hs => h s (by omega)

/-- Rounds of "take the greatest entry, of equal ones the one of the lowest label, and overwrite it with `⊥`" select, while
    the entries are above `⊥` and there are as many as rounds. -/
theorem isSel_of_rounds [Fintype β] [DecidableEq β] {V : ℕ → β → EReal} {σ : ℕ → β} {gl : β → ℕ} {k : ℕ}
    (hk : k ≤ Fintype.card β) (hfin : ∀ b, ⊥ < V 0 b) (hmax : ∀ t, t < k → ∀ b, Beats (V t) gl (σ t) b)
    (hstep : ∀ t, t < k → ∀ b, V (t + 1) b = if b = σ t then ⊥ else V t b) :
    IsSel (V 0) gl k σ ∧ ∀ t, t < k → V t (σ t) = V 0 (σ t) := by
  have hc := fun t ht b => rounds_contents (σ := σ) hstep t ht b
  have hnew : ∀ t, t < k → ∀ s, s < t → σ s ≠ σ t := by
    intro t ht s hs e
    -- some entry is not taken yet, and it is above ⊥
    obtain ⟨b, hb⟩ : ∃ b, ∀ s, s < t → σ s ≠ b := by
      by_contra hno
      push Not at hno
      have hsub : (Finset.univ : Finset β) ⊆ (Finset.range t).image σ := fun b _ => by
        obtain ⟨s, hs, e⟩ := hno b
        exact Finset.mem_image.mpr ⟨s, Finset.mem_range.mpr hs, e⟩
      have := (Finset.card_le_card hsub).trans Finset.card_image_le
      rw [Finset.card_range, Finset.card_univ] at this
      omega
    have h1 : V t (σ t) = ⊥ := (hc t ht.le _).1 ⟨s, hs, e⟩
    have h2 : V t b = V 0 b := (hc t ht.le _).2 hb
    rcases hmax t ht b with h | ⟨h, _⟩
    · rw [h1] at h; exact absurd h not_lt_bot
    · rw [h1, h2] at h; exact absurd (hfin b) (h ▸ lt_irrefl _)
  have hval : ∀ t, t < k → V t (σ t) = V 0 (σ t) := fun t ht => (hc t ht.le _).2 (hnew t ht)
  refine ⟨fun t ht => ⟨hnew t ht, fun b hb => ?_⟩, hval⟩
  have h := hmax t ht b
  unfold Beats at h ⊢
  rwa [hval t ht, (hc t ht.le b).2 hb] at h

/-- TWO LEVELS. `N · W` entries in `N` blocks of `W`, labelled by their position. A selection `ch` of `k` blocks by their
    greatest entry, and then a selection `τ` of `k` entries of those blocks (entry `w` of the `j`-th selected block), is a
    selection of `k` entries of the whole. -/
theorem isSel_two_level {W k : ℕ} {n : ℕ} (s : Fin n → EReal) {N : ℕ} (pos : Fin N → Fin W → Fin n)
    (hpos : ∀ c w, (pos c w : ℕ) = c * W + w) (hsurj : ∀ p, ∃ c w, pos c w = p)
    (M : Fin N → EReal) (hM : ∀ c, (∃ w, s (pos c w) = M c) ∧ ∀ w, s (pos c w) ≤ M c)
    {ch : ℕ → Fin N} (hch : IsSel M (fun c => (c : ℕ)) k ch)
    {τ : ℕ → Fin k × Fin W}
    (hτ : IsSel (fun q : Fin k × Fin W => s (pos (ch q.1) q.2)) (fun q => (pos (ch q.1) q.2 : ℕ)) k τ) :
    IsSel s (fun p => (p : ℕ)) k (fun t => pos (ch (τ t).1) (τ t).2) := by
  have hinj : ∀ {c w c' w'}, pos c w = pos c' w' → c = c' ∧ w = w' := by
    intro c w c' w' e
    have h : (c : ℕ) * W + w = c' * W + w' := by rw [← hpos, ← hpos, e]
    have hw := w.isLt; have hw' := w'.isLt
    have hc : (c : ℕ) = c' := by
      rcases lt_trichotomy (c : ℕ) c' with hl | he | hl
      · have := Nat.mul_le_mul_right W (Nat.succ_le_of_lt hl); rw [Nat.succ_mul] at this; omega
      · exact he
      · have := Nat.mul_le_mul_right W (Nat.succ_le_of_lt hl); rw [Nat.succ_mul] at this; omega
    refine ⟨Fin.ext hc, Fin.ext ?_⟩
    rw [hc] at h; omega
  have hlift : ∀ {q q' : Fin k × Fin W}, pos (ch q.1) q.2 = pos (ch q'.1) q'.2 → q = q' := by
    intro q q' e
    obtain ⟨h1, h2⟩ := hinj e
    exact Prod.ext (Fin.ext (hch.inj q.1.isLt q'.1.isLt h1)) h2
  intro t ht
  refine ⟨fun r hr e => (hτ t ht).1 r hr (hlift e), fun p hp => ?_⟩
  obtain ⟨c, w, rfl⟩ := hsurj p
  by_cases hc : ∃ j : Fin k, ch j = c
  · obtain ⟨j, rfl⟩ := hc
    exact (hτ t ht).2 (j, w) fun r hr e => hp r hr (by show pos (ch (τ r).1) (τ r).2 = _; rw [e])
  · push Not at hc
    -- some selected block has none of the entries named so far
    obtain ⟨j, hj⟩ : ∃ j : Fin k, ∀ r, r < t → (τ r).1 ≠ j := by
      by_contra hno
      push Not at hno
      have hsub : (Finset.univ : Finset (Fin k)) ⊆ (Finset.range t).image fun r => (τ r).1 := fun j _ => by
        obtain ⟨r, hr, e⟩ := hno j
        exact Finset.mem_image.mpr ⟨r, Finset.mem_range.mpr hr, e⟩
      have := (Finset.card_le_card hsub).trans Finset.card_image_le
      rw [Finset.card_range, Finset.card_univ, Fintype.card_fin] at this
      omega
    obtain ⟨w', hw'⟩ := (hM (ch j)).1
    have h1 : Beats s (fun p => (p : ℕ)) (pos (ch (τ t).1) (τ t).2) (pos (ch j) w') :=
      (hτ t ht).2 (j, w') fun r hr e => hj r hr (by rw [e])
    refine h1.trans ?_
    have h2 := (hch j j.isLt).2 c fun r hr => hc ⟨r, hr.trans j.isLt⟩
    have h3 := (hM c).2 w
    rcases h2 with h2 | ⟨h2, e2⟩
    · exact Or.inl (by rw [hw']; exact h3.trans_lt h2)
    · rcases h3.lt_or_eq with h3 | h3
      · exact Or.inl (by rw [hw', ← h2]; exact h3)
      · refine Or.inr ⟨by rw [hw', ← h2, h3], ?_⟩
        have hne : (ch j : ℕ) ≠ c := fun e => hc j (Fin.ext e)
        have := w'.isLt
        have h4 : ((ch j : ℕ) + 1) * W ≤ c * W := Nat.mul_le_mul_right W (by simp only at e2; omega)
        rw [Nat.add_mul, one_mul] at h4
        simp only [hpos]
        omega

end Cert.Proof
-- ==== Proof.Rounds.lean ====
/-
  Ten rounds of "the row's greatest entry, the lowest label among the entries that are at least it, −∞ there", as the two
  bodies write them over 128 and over 1280 columns. At the extended reals they make a selection of each row whose entries
  are above −∞.
-/
module

public import proofs.«01_k».proof.KernelIdeal
public import proofs.«01_k».proof.Proof.Gen.KernelIdeal
public import proofs.«01_k».proof.Proof.Sel
public import Idealize.ShloMosaic.Lib.Pointwise
public import Idealize.ShloMosaic.Lib.WordArith

@[expose] public section

set_option maxRecDepth 16384

noncomputable section

namespace Cert.Proof

open Idealize.ShloMosaic Cert.KernelIdeal Cert.KernelIdeal.Facts₀ Cert.KernelIdeal.Facts

/-- The accumulator of a maximum is `⊥`. -/
theorem ofBits_ninf : Ideal.ofBits .f32 0xFF800000#32 = ⊥ := by
  simp [Ideal.ofBits, Ideal.ieee]

/-- A row's greatest entry. -/
def rowMax {n : ℕ} (v : Fin n → EReal) : EReal := Finset.fold max (Ideal.ofBits .f32 0xFF800000#32) v Finset.univ

/-- A row's lowest label among the entries that are at least its greatest. -/
def rowLow {n : ℕ} (hi : BitVec 32) (g : Fin n → BitVec 32) (v : Fin n → EReal) : BitVec 32 :=
  Finset.fold IntOp.minsi (2147483647#32) (fun x => if rowMax v ≤ v x then g x else hi) Finset.univ

/-- No entry is above the maximum. -/
theorem le_rowMax {n : ℕ} (v : Fin n → EReal) (w : Fin n) : v w ≤ rowMax v := by
  unfold rowMax; exact Finset.le_fold_max _ |>.mpr (Or.inr ⟨w, Finset.mem_univ _, le_rfl⟩)

/-- Some entry is the maximum. -/
theorem rowMax_mem {n : ℕ} (v : Fin n → EReal) (hn : 0 < n) : ∃ w, v w = rowMax v := by
  obtain ⟨w, -, hw⟩ := Finset.exists_max_image (Finset.univ : Finset (Fin n)) v ⟨⟨0, hn⟩, Finset.mem_univ _⟩
  refine ⟨w, le_antisymm (le_rowMax v w) ?_⟩
  unfold rowMax
  rw [Finset.fold_max_le, ofBits_ninf]
  exact ⟨bot_le, fun x hx => hw x hx⟩

/-- The signed least of labels below `2 ^ 31` is one of them, and none is lower. -/
theorem fold_minsi {n : ℕ} (f : Fin n → BitVec 32) (hf : ∀ x, (f x).toNat < 2 ^ 31) (hn : 0 < n) :
    (∃ x, Finset.fold IntOp.minsi (2147483647#32) f Finset.univ = f x) ∧
      ∀ x, (Finset.fold IntOp.minsi (2147483647#32) f Finset.univ).toNat ≤ (f x).toNat := by
  have hmin : ∀ a b : BitVec 32, a.toNat < 2 ^ 31 → b.toNat < 2 ^ 31 → IntOp.minsi a b = if a.toNat ≤ b.toNat then a else b := by
    intro a b ha hb
    refine BitVec.eq_of_toNat_eq ?_
    rw [WordArith.toNat_minsi_of_lt a b ha hb]
    split <;> omega
  have key : ∀ s : Finset (Fin n), (Finset.fold IntOp.minsi (2147483647#32) f s).toNat < 2 ^ 31 ∧
      (Finset.fold IntOp.minsi (2147483647#32) f s = 2147483647#32 ∨ ∃ x ∈ s, Finset.fold IntOp.minsi (2147483647#32) f s = f x) ∧
      ∀ x ∈ s, (Finset.fold IntOp.minsi (2147483647#32) f s).toNat ≤ (f x).toNat := by
    intro s
    induction s using Finset.induction_on with
    | empty => simp
    | insert a s ha ih =>
      obtain ⟨h1, h2, h3⟩ := ih
      rw [Finset.fold_insert ha, hmin _ _ (hf a) h1]
      split
      · refine ⟨hf a, Or.inr ⟨a, Finset.mem_insert_self _ _, rfl⟩, fun x hx => ?_⟩
        rcases Finset.mem_insert.mp hx with rfl | hx
        · exact le_rfl
        · exact le_trans (by assumption) (h3 x hx)
      · refine ⟨h1, h2.imp_right fun ⟨x, hx, e⟩ => ⟨x, Finset.mem_insert_of_mem hx, e⟩, fun x hx => ?_⟩
        rcases Finset.mem_insert.mp hx with rfl | hx
        · omega
        · exact h3 x hx
  obtain ⟨h1, h2, h3⟩ := key Finset.univ
  refine ⟨?_, fun x => h3 x (Finset.mem_univ _)⟩
  rcases h2 with h2 | ⟨x, -, h2⟩
  · have h := h3 ⟨0, hn⟩ (Finset.mem_univ _)
    have h' := hf ⟨0, hn⟩
    rw [h2] at h
    refine ⟨⟨0, hn⟩, ?_⟩
    rw [h2]
    exact BitVec.eq_of_toNat_eq (by simp at h ⊢; omega)
  · exact ⟨x, h2⟩

/-- One round of a row: some entry is the greatest, of equal ones the one of the lowest label. -/
theorem pick {n : ℕ} (hi : BitVec 32) (g : Fin n → BitVec 32) (v : Fin n → EReal) (hhi : hi.toNat < 2 ^ 31)
    (hg : ∀ w, (g w).toNat < hi.toNat) (hn : 0 < n) :
    ∃ b, rowLow hi g v = g b ∧ rowMax v = v b ∧ ∀ w, Beats v (fun w => (g w).toNat) b w := by
  obtain ⟨w₀, hw₀⟩ := rowMax_mem v hn
  obtain ⟨⟨b, hb⟩, hle⟩ := fold_minsi (fun x => if rowMax v ≤ v x then g x else hi)
    (fun x => by split <;> [exact (hg x).trans hhi; exact hhi]) hn
  have hbm : rowMax v ≤ v b := by
    by_contra hno
    have h := hle w₀
    rw [hb] at h
    simp only [hno, hw₀.ge, if_true, if_false] at h
    have := hg w₀
    omega
  have hb' : rowMax v = v b := le_antisymm hbm (le_rowMax v b)
  refine ⟨b, by unfold rowLow; rw [hb]; exact if_pos hbm, hb', fun w => ?_⟩
  rcases (le_rowMax v w).lt_or_eq with h | h
  · exact Or.inl (hb' ▸ h)
  · refine Or.inr ⟨h.trans hb', ?_⟩
    have h' := hle w
    rw [hb] at h'
    simpa only [hbm, h.ge, if_true] using h'

/-- The rounds of a row make a selection. -/
theorem rounds_row {n : ℕ} {V : ℕ → Fin n → EReal} {I : ℕ → BitVec 32} {M : ℕ → EReal} (hi : BitVec 32) (g : Fin n → BitVec 32)
    (hhi : hi.toNat < 2 ^ 31) (hg : ∀ w, (g w).toNat < hi.toNat) (hinj : ∀ w w', g w = g w' → w = w') (hn : 10 ≤ n)
    (hfin : ∀ w, ⊥ < V 0 w) (hM : ∀ t, M t = rowMax (V t)) (hI : ∀ t, I t = rowLow hi g (V t))
    (hV : ∀ t w, V (t + 1) w = Scalar.select (IntOp.cmpi .eq (g w) (I t)) (Ideal.ofBits .f32 0xFF800000#32) (V t w)) :
    ∃ σ : ℕ → Fin n, IsSel (V 0) (fun w => (g w).toNat) 10 σ ∧ ∀ t, t < 10 → I t = g (σ t) ∧ M t = V 0 (σ t) := by
  choose σ h1 h2 h3 using fun t => pick hi g (V t) hhi hg (by omega)
  have hs := isSel_of_rounds (V := V) (σ := σ) (gl := fun w => (g w).toNat) (k := 10) (by simpa using hn) hfin (fun t _ => h3 t) (fun t _ b => by
    rw [hV, hI, h1, ofBits_ninf]
    by_cases e : b = σ t
    · subst e; simp [IntOp.cmpi, Scalar.select]
    · have : g b ≠ g (σ t) := fun h => e (hinj _ _ h)
      have hb : (g b == g (σ t)) = false := by simpa using this
      simp [IntOp.cmpi, Scalar.select, hb, e])
  exact ⟨σ, hs.1, fun t ht => ⟨by rw [hI, h1], by rw [hM, h2, hs.2 t ht]⟩⟩

variable {F : FTy → Type} [FloatOps F] [Cert.KernelIdeal.Facts]

/-! ## Rounds over 128 columns -/

/-- The greatest entry of each row. -/
def mxA (v : FVec F S128x128 .f32) : FVec F S128x1 .f32 :=
  shapeCast S128x1 (multiReduction .maximumf [1] S128 v 0xFF800000#32 reduces_S128x128_S128 (.inl rfl) rfl) shapeCasts_S128_S128x1

/-- The lowest label among the entries that are at least the row's greatest. -/
def ixA (g : IVec S128x128 32) (hi : BitVec 32) (v : FVec F S128x128 .f32) : IVec S128x1 32 :=
  shapeCast S128x1 (multiReductionI .minsi [1] S128 (select (cmpf .oge v (broadcastTo S128x128 (mxA v) broadcasts_S128x1_S128x128)) g (broadcast S128x128 hi)) 2147483647#32 reduces_S128x128_S128 rfl) shapeCasts_S128_S128x1

/-- What the next round starts from: −∞ at that label. -/
def nxA (g : IVec S128x128 32) (hi : BitVec 32) (v : FVec F S128x128 .f32) : FVec F S128x128 .f32 :=
  select (cmpi .eq g (broadcastTo S128x128 (ixA g hi v) broadcasts_S128x1_S128x128)) (broadcast S128x128 (Scalar.ofBits .f32 0xFF800000#32)) v

/-- The entries that round `t` starts from. -/
def rdA (g : IVec S128x128 32) (hi : BitVec 32) (v : FVec F S128x128 .f32) : ℕ → FVec F S128x128 .f32
  | 0 => v
  | t + 1 => nxA g hi (rdA g hi v t)

/-- Along each row the rounds make a selection: round `t` yields the label and the value of its `t`-th entry. -/
theorem roundsA (g : IVec S128x128 32) (hi : BitVec 32) (v : FVec Ideal S128x128 .f32) (r : Fin 128) (hhi : hi.toNat < 2 ^ 31)
    (hg : ∀ w : Fin 128, (g (ix2 r w)).toNat < hi.toNat) (hinj : ∀ w w' : Fin 128, g (ix2 r w) = g (ix2 r w') → w = w')
    (hfin : ∀ w : Fin 128, (⊥ : EReal) < v (ix2 r w)) :
    ∃ σ : ℕ → Fin 128, IsSel (fun w : Fin 128 => (v (ix2 r w) : EReal)) (fun w => (g (ix2 r w)).toNat) 10 σ ∧
      ∀ t, t < 10 → ixA g hi (rdA g hi v t) (ix2 r 0) = g (ix2 r (σ t)) ∧ mxA (rdA g hi v t) (ix2 r 0) = v (ix2 r (σ t)) := by
  have hm : ∀ u : FVec Ideal S128x128 .f32, mxA u (ix2 r 0) = rowMax fun w => u (ix2 r w) := fun u => by
    unfold mxA rowMax; pointwise
  have hx : ∀ u : FVec Ideal S128x128 .f32, ixA g hi u (ix2 r 0) = rowLow hi (fun w => g (ix2 r w)) fun w => u (ix2 r w) := fun u => by
    unfold ixA mxA rowLow rowMax; pointwise
  have hn : ∀ (u : FVec Ideal S128x128 .f32) (w : Fin 128), nxA g hi u (ix2 r w)
      = Scalar.select (IntOp.cmpi .eq (g (ix2 r w)) (ixA g hi u (ix2 r 0))) (Ideal.ofBits .f32 0xFF800000#32) (u (ix2 r w)) := fun u w => by
    unfold nxA; pointwise
  exact rounds_row (V := fun t w => rdA g hi v t (ix2 r w)) (I := fun t => ixA g hi (rdA g hi v t) (ix2 r 0))
    (M := fun t => mxA (rdA g hi v t) (ix2 r 0)) hi _ hhi hg hinj (by decide) hfin (fun t => hm _) (fun t => hx _) (fun t w => hn _ w)

/-! ## Rounds over 1280 columns -/

/-- The greatest entry of each row. -/
def mxB (v : FVec F S128x1280 .f32) : FVec F S128x1 .f32 :=
  shapeCast S128x1 (multiReduction .maximumf [1] S128 v 0xFF800000#32 reduces_S128x1280_S128 (.inl rfl) rfl) shapeCasts_S128_S128x1

/-- The lowest label among the entries that are at least the row's greatest. -/
def ixB (g : IVec S128x1280 32) (hi : BitVec 32) (v : FVec F S128x1280 .f32) : IVec S128x1 32 :=
  shapeCast S128x1 (multiReductionI .minsi [1] S128 (select (cmpf .oge v (broadcastTo S128x1280 (mxB v) broadcasts_S128x1_S128x1280)) g (broadcast S128x1280 hi)) 2147483647#32 reduces_S128x1280_S128 rfl) shapeCasts_S128_S128x1

/-- What the next round starts from: −∞ at that label. -/
def nxB (g : IVec S128x1280 32) (hi : BitVec 32) (v : FVec F S128x1280 .f32) : FVec F S128x1280 .f32 :=
  select (cmpi .eq g (broadcastTo S128x1280 (ixB g hi v) broadcasts_S128x1_S128x1280)) (broadcast S128x1280 (Scalar.ofBits .f32 0xFF800000#32)) v

/-- The entries that round `t` starts from. -/
def rdB (g : IVec S128x1280 32) (hi : BitVec 32) (v : FVec F S128x1280 .f32) : ℕ → FVec F S128x1280 .f32
  | 0 => v
  | t + 1 => nxB g hi (rdB g hi v t)

/-- Along each row the rounds make a selection: round `t` yields the label and the value of its `t`-th entry. -/
theorem roundsB (g : IVec S128x1280 32) (hi : BitVec 32) (v : FVec Ideal S128x1280 .f32) (r : Fin 128) (hhi : hi.toNat < 2 ^ 31)
    (hg : ∀ w : Fin 1280, (g (ix2 r w)).toNat < hi.toNat) (hinj : ∀ w w' : Fin 1280, g (ix2 r w) = g (ix2 r w') → w = w')
    (hfin : ∀ w : Fin 1280, (⊥ : EReal) < v (ix2 r w)) :
    ∃ σ : ℕ → Fin 1280, IsSel (fun w : Fin 1280 => (v (ix2 r w) : EReal)) (fun w => (g (ix2 r w)).toNat) 10 σ ∧
      ∀ t, t < 10 → ixB g hi (rdB g hi v t) (ix2 r 0) = g (ix2 r (σ t)) ∧ mxB (rdB g hi v t) (ix2 r 0) = v (ix2 r (σ t)) := by
  have hm : ∀ u : FVec Ideal S128x1280 .f32, mxB u (ix2 r 0) = rowMax fun w => u (ix2 r w) := fun u => by
    unfold mxB rowMax; pointwise
  have hx : ∀ u : FVec Ideal S128x1280 .f32, ixB g hi u (ix2 r 0) = rowLow hi (fun w => g (ix2 r w)) fun w => u (ix2 r w) := fun u => by
    unfold ixB mxB rowLow rowMax; pointwise
  have hn : ∀ (u : FVec Ideal S128x1280 .f32) (w : Fin 1280), nxB g hi u (ix2 r w)
      = Scalar.select (IntOp.cmpi .eq (g (ix2 r w)) (ixB g hi u (ix2 r 0))) (Ideal.ofBits .f32 0xFF800000#32) (u (ix2 r w)) := fun u w => by
    unfold nxB; pointwise
  exact rounds_row (V := fun t w => rdB g hi v t (ix2 r w)) (I := fun t => ixB g hi (rdB g hi v t) (ix2 r 0))
    (M := fun t => mxB (rdB g hi v t) (ix2 r 0)) hi _ hhi hg hinj (by decide) hfin (fun t => hm _) (fun t => hx _) (fun t w => hn _ w)

end Cert.Proof

end
-- ==== Proof.KI.BodyVals.lean ====
/-
  What each body leaves in its output blocks, as functions of what it found in its operands' blocks.
-/
module

public import proofs.«01_k».proof.Proof.KI.Bodies
public import proofs.«01_k».proof.Proof.KI.SimBody
public import proofs.«01_k».proof.Proof.Rounds
public import Idealize.ShloMosaic.Lib.Pipeline.Value

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The offsets of a whole block are zero. -/
theorem zero2 : (![0, 0] : Fin 2 → ℕ) = fun _ => 0 := by funext a; fin_cases a <;> rfl

/-! ## The normalisation -/

/-- The normalisation body leaves its operand's quotient by the row norms. -/
theorem norm_val (c : Dev nD) (M0 : Memref sig .tc .vmem S16384x64 .f32) (h0 : M0.IsWhole) (M1 : Memref sig .tc .vmem S16384x64 .f32) (h1 : M1.IsWhole)
    (f0 : Bf (F := F) c M0) :
    M1.view.read (Elt F) (normRun (F := F) c M0 h0 M1 h1 f0).1 = k0_pay1 (M0.view.read (Elt F) f0) := by
  unfold normRun
  rw [View.read_writes_junk_eq_canon]
  unfold normRun.sl.H1_1
  rw [View.canon_unit_zero zero2, View.readAt_eq_ld, View.ld_unit_zero zero2]

/-! ## The similarities -/

/-- The column numbers of a row of 128. -/
def ioA : IVec S128x128 32 := iota .tc S128x128 32 [1] iota_S128x128_d1_w32

/-- Round `t`'s chunk number for each row, from the chunks' maxima. -/
def cidAt (m : FVec F S128x128 .f32) (t : ℕ) : IVec S128x1 32 := ixA ioA 128#32 (rdA ioA 128#32 m t)

/-- Round `t`'s table row for each row of block `i`. -/
def gixAt (i : BitVec 32) (m : FVec F S128x128 .f32) (t : ℕ) : IVec S128x1 32 :=
  addi (muli (cidAt m t) (broadcast S128x1 16384#32)) (k1_pay149 i)

/-- The ten chunk numbers of each row. -/
def cidOut (m : FVec F S128x128 .f32) : IVec S128x10 32 :=
  concatenate S128x10 1 [⟨S128x1, cidAt m 0⟩, ⟨S128x1, cidAt m 1⟩, ⟨S128x1, cidAt m 2⟩, ⟨S128x1, cidAt m 3⟩, ⟨S128x1, cidAt m 4⟩, ⟨S128x1, cidAt m 5⟩, ⟨S128x1, cidAt m 6⟩, ⟨S128x1, cidAt m 7⟩, ⟨S128x1, cidAt m 8⟩, ⟨S128x1, cidAt m 9⟩]
    concatenates_S128x1_S128x1_S128x1_S128x1_S128x1_S128x1_S128x1_S128x1_S128x1_S128x1_S128x10_d1

/-- The ten table rows of each row. -/
def gixOut (i : BitVec 32) (m : FVec F S128x128 .f32) : IVec S128x10 32 :=
  concatenate S128x10 1 [⟨S128x1, gixAt i m 0⟩, ⟨S128x1, gixAt i m 1⟩, ⟨S128x1, gixAt i m 2⟩, ⟨S128x1, gixAt i m 3⟩, ⟨S128x1, gixAt i m 4⟩, ⟨S128x1, gixAt i m 5⟩, ⟨S128x1, gixAt i m 6⟩, ⟨S128x1, gixAt i m 7⟩, ⟨S128x1, gixAt i m 8⟩, ⟨S128x1, gixAt i m 9⟩]
    concatenates_S128x1_S128x1_S128x1_S128x1_S128x1_S128x1_S128x1_S128x1_S128x1_S128x1_S128x10_d1

section
variable (m v b : FVec F S128x128 .f32) (x : IVec S128x128 32)
/-- The similarity body's value 156 is a step of its rounds: the maxima that a round leaves, or the chunk that it chooses. -/
theorem p156 (t : ℕ) : k1_pay156 ioA (rdA ioA 128#32 m t) (broadcastTo S128x128 (cidAt m t) broadcasts_S128x1_S128x128) = rdA ioA 128#32 m (t + 1) := rfl
/-- The similarity body's value 157 is a step of its rounds: the maxima that a round leaves, or the chunk that it chooses. -/
theorem p157 : k1_pay157 ioA v x = ixA ioA 128#32 (k1_pay156 ioA v x) := rfl
/-- The similarity body's value 166 is a step of its rounds: the maxima that a round leaves, or the chunk that it chooses. -/
theorem p166 (t : ℕ) : k1_pay166 ioA (rdA ioA 128#32 m t) (broadcastTo S128x128 (cidAt m t) broadcasts_S128x1_S128x128) = rdA ioA 128#32 m (t + 1) := rfl
/-- The similarity body's value 167 is a step of its rounds: the maxima that a round leaves, or the chunk that it chooses. -/
theorem p167 : k1_pay167 ioA v x = ixA ioA 128#32 (k1_pay166 ioA v x) := rfl
/-- The similarity body's value 176 is a step of its rounds: the maxima that a round leaves, or the chunk that it chooses. -/
theorem p176 (t : ℕ) : k1_pay176 ioA (rdA ioA 128#32 m t) (broadcastTo S128x128 (cidAt m t) broadcasts_S128x1_S128x128) = rdA ioA 128#32 m (t + 1) := rfl
/-- The similarity body's value 177 is a step of its rounds: the maxima that a round leaves, or the chunk that it chooses. -/
theorem p177 : k1_pay177 ioA v x = ixA ioA 128#32 (k1_pay176 ioA v x) := rfl
/-- The similarity body's value 159 is a step of its rounds: the maxima that a round leaves, or the chunk that it chooses. -/
theorem p159 : k1_pay159 ioA v x = nxA ioA 128#32 (k1_pay156 ioA v x) := rfl
/-- The similarity body's value 162 is a step of its rounds: the maxima that a round leaves, or the chunk that it chooses. -/
theorem p162 : k1_pay162 ioA v x = nxA ioA 128#32 (k1_pay159 ioA v x) := rfl
/-- The similarity body's value 169 is a step of its rounds: the maxima that a round leaves, or the chunk that it chooses. -/
theorem p169 : k1_pay169 ioA v x = nxA ioA 128#32 (k1_pay166 ioA v x) := rfl
/-- The similarity body's value 172 is a step of its rounds: the maxima that a round leaves, or the chunk that it chooses. -/
theorem p172 : k1_pay172 ioA v x = nxA ioA 128#32 (k1_pay169 ioA v x) := rfl
/-- The similarity body's value 160 is a step of its rounds: the maxima that a round leaves, or the chunk that it chooses. -/
theorem p160 : k1_pay160 ioA v x = ixA ioA 128#32 (k1_pay159 ioA v x) := rfl
/-- The similarity body's value 163 is a step of its rounds: the maxima that a round leaves, or the chunk that it chooses. -/
theorem p163 : k1_pay163 ioA v x = ixA ioA 128#32 (k1_pay162 ioA v x) := rfl
/-- The similarity body's value 170 is a step of its rounds: the maxima that a round leaves, or the chunk that it chooses. -/
theorem p170 : k1_pay170 ioA v x = ixA ioA 128#32 (k1_pay169 ioA v x) := rfl
/-- The similarity body's value 173 is a step of its rounds: the maxima that a round leaves, or the chunk that it chooses. -/
theorem p173 : k1_pay173 ioA v x = ixA ioA 128#32 (k1_pay172 ioA v x) := rfl
/-- The similarity body's value 165 is a step of its rounds: the maxima that a round leaves, or the chunk that it chooses. -/
theorem p165 : k1_pay165 ioA v x = broadcastTo S128x128 (ixA ioA 128#32 (k1_pay162 ioA v x)) broadcasts_S128x1_S128x128 := rfl
/-- The similarity body's value 175 is a step of its rounds: the maxima that a round leaves, or the chunk that it chooses. -/
theorem p175 : k1_pay175 ioA v x = broadcastTo S128x128 (ixA ioA 128#32 (k1_pay172 ioA v x)) broadcasts_S128x1_S128x128 := rfl
/-- The similarity body's value 179 is a step of its rounds: the maxima that a round leaves, or the chunk that it chooses. -/
theorem p179 : k1_pay179 ioA v x = ixA ioA 128#32 (nxA ioA 128#32 (k1_pay176 ioA v x)) := rfl
end

section
variable (c : Dev nD) (i : grid1.Coords) (M1 : Memref sig .tc .vmem S128x64 .f32) (h1 : M1.IsWhole) (M2 : Memref sig .tc .vmem S16384x64 .f32) (h2 : M2.IsWhole)
    (M3 : Memref sig .tc .vmem S128x128x128 .f32) (h3 : M3.IsWhole) (M4 : Memref sig .tc .vmem S128x10 .i32) (h4 : M4.IsWhole) (M5 : Memref sig .tc .vmem S128x10 .i32) (h5 : M5.IsWhole)
    (f1 : Bf (F := F) c M1) (f2 : Bf (F := F) c M2)

/-- The block's similarities. -/
theorem sim_r : simRun.sl.r c M1 M2 f1 f2 = k1_pay2 (M1.view.read (Elt F) f1) (M2.view.read (Elt F) f2) := by
  unfold simRun.sl.r
  rw [View.readAt_eq_ld, View.ld_unit_zero zero2, View.readAt_eq_ld, View.ld_unit_zero zero2]

/-- The similarity body's intermediate r3, in terms of the rounds on the block's chunk maxima. -/
theorem sim_r3 : simRun.sl.r_3 c M1 M2 f1 f2 = cidAt (k1_pay148 (simRun.sl.r c M1 M2 f1 f2)) 0 := rfl
/-- The similarity body's intermediate r5, in terms of the rounds on the block's chunk maxima. -/
theorem sim_r5 : simRun.sl.r_5 c M1 M2 f1 f2 = rdA ioA 128#32 (k1_pay148 (simRun.sl.r c M1 M2 f1 f2)) 1 := rfl
/-- The similarity body's intermediate r6, in terms of the rounds on the block's chunk maxima. -/
theorem sim_r6 : simRun.sl.r_6 c M1 M2 f1 f2 = cidAt (k1_pay148 (simRun.sl.r c M1 M2 f1 f2)) 1 := by
  show ixA ioA 128#32 (simRun.sl.r_5 c M1 M2 f1 f2) = _
  rw [sim_r5]; rfl
/-- The similarity body's intermediate r8, in terms of the rounds on the block's chunk maxima. -/
theorem sim_r8 : simRun.sl.r_8 c M1 M2 f1 f2 = broadcastTo S128x128 (cidAt (k1_pay148 (simRun.sl.r c M1 M2 f1 f2)) 1) broadcasts_S128x1_S128x128 := by
  show broadcastTo S128x128 (simRun.sl.r_6 c M1 M2 f1 f2) broadcasts_S128x1_S128x128 = _
  rw [sim_r6]
/-- The similarity body's intermediate r9, in terms of the rounds on the block's chunk maxima. -/
theorem sim_r9 : simRun.sl.r_9 c M1 M2 f1 f2 = cidAt (k1_pay148 (simRun.sl.r c M1 M2 f1 f2)) 2 := by
  show k1_pay157 ioA (simRun.sl.r_5 c M1 M2 f1 f2) (simRun.sl.r_8 c M1 M2 f1 f2) = _
  rw [sim_r5, sim_r8, p157, p156]; rfl
/-- The similarity body's intermediate r11, in terms of the rounds on the block's chunk maxima. -/
theorem sim_r11 : simRun.sl.r_11 c M1 M2 f1 f2 = cidAt (k1_pay148 (simRun.sl.r c M1 M2 f1 f2)) 3 := by
  show k1_pay160 ioA (simRun.sl.r_5 c M1 M2 f1 f2) (simRun.sl.r_8 c M1 M2 f1 f2) = _
  rw [sim_r5, sim_r8, p160, p159, p156]; rfl
/-- The similarity body's intermediate r13, in terms of the rounds on the block's chunk maxima. -/
theorem sim_r13 : simRun.sl.r_13 c M1 M2 f1 f2 = rdA ioA 128#32 (k1_pay148 (simRun.sl.r c M1 M2 f1 f2)) 4 := by
  show k1_pay162 ioA (simRun.sl.r_5 c M1 M2 f1 f2) (simRun.sl.r_8 c M1 M2 f1 f2) = _
  rw [sim_r5, sim_r8, p162, p159, p156]; rfl
/-- The similarity body's intermediate r14, in terms of the rounds on the block's chunk maxima. -/
theorem sim_r14 : simRun.sl.r_14 c M1 M2 f1 f2 = cidAt (k1_pay148 (simRun.sl.r c M1 M2 f1 f2)) 4 := by
  show k1_pay163 ioA (simRun.sl.r_5 c M1 M2 f1 f2) (simRun.sl.r_8 c M1 M2 f1 f2) = _
  rw [sim_r5, sim_r8, p163, p162, p159, p156]; rfl
/-- The similarity body's intermediate r16, in terms of the rounds on the block's chunk maxima. -/
theorem sim_r16 : simRun.sl.r_16 c M1 M2 f1 f2 = broadcastTo S128x128 (cidAt (k1_pay148 (simRun.sl.r c M1 M2 f1 f2)) 4) broadcasts_S128x1_S128x128 := by
  show k1_pay165 ioA (simRun.sl.r_5 c M1 M2 f1 f2) (simRun.sl.r_8 c M1 M2 f1 f2) = _
  rw [sim_r5, sim_r8, p165, p162, p159, p156]; rfl
/-- The similarity body's intermediate r17, in terms of the rounds on the block's chunk maxima. -/
theorem sim_r17 : simRun.sl.r_17 c M1 M2 f1 f2 = cidAt (k1_pay148 (simRun.sl.r c M1 M2 f1 f2)) 5 := by
  show k1_pay167 ioA (simRun.sl.r_13 c M1 M2 f1 f2) (simRun.sl.r_16 c M1 M2 f1 f2) = _
  rw [sim_r13, sim_r16, p167, p166]; rfl
/-- The similarity body's intermediate r19, in terms of the rounds on the block's chunk maxima. -/
theorem sim_r19 : simRun.sl.r_19 c M1 M2 f1 f2 = cidAt (k1_pay148 (simRun.sl.r c M1 M2 f1 f2)) 6 := by
  show k1_pay170 ioA (simRun.sl.r_13 c M1 M2 f1 f2) (simRun.sl.r_16 c M1 M2 f1 f2) = _
  rw [sim_r13, sim_r16, p170, p169, p166]; rfl
/-- The similarity body's intermediate r21, in terms of the rounds on the block's chunk maxima. -/
theorem sim_r21 : simRun.sl.r_21 c M1 M2 f1 f2 = rdA ioA 128#32 (k1_pay148 (simRun.sl.r c M1 M2 f1 f2)) 7 := by
  show k1_pay172 ioA (simRun.sl.r_13 c M1 M2 f1 f2) (simRun.sl.r_16 c M1 M2 f1 f2) = _
  rw [sim_r13, sim_r16, p172, p169, p166]; rfl
/-- The similarity body's intermediate r22, in terms of the rounds on the block's chunk maxima. -/
theorem sim_r22 : simRun.sl.r_22 c M1 M2 f1 f2 = cidAt (k1_pay148 (simRun.sl.r c M1 M2 f1 f2)) 7 := by
  show k1_pay173 ioA (simRun.sl.r_13 c M1 M2 f1 f2) (simRun.sl.r_16 c M1 M2 f1 f2) = _
  rw [sim_r13, sim_r16, p173, p172, p169, p166]; rfl
/-- The similarity body's intermediate r24, in terms of the rounds on the block's chunk maxima. -/
theorem sim_r24 : simRun.sl.r_24 c M1 M2 f1 f2 = broadcastTo S128x128 (cidAt (k1_pay148 (simRun.sl.r c M1 M2 f1 f2)) 7) broadcasts_S128x1_S128x128 := by
  show k1_pay175 ioA (simRun.sl.r_13 c M1 M2 f1 f2) (simRun.sl.r_16 c M1 M2 f1 f2) = _
  rw [sim_r13, sim_r16, p175, p172, p169, p166]; rfl
/-- The similarity body's intermediate x8, in terms of the rounds on the block's chunk maxima. -/
theorem sim_x8 : k1_pay177 ioA (simRun.sl.r_21 c M1 M2 f1 f2) (simRun.sl.r_24 c M1 M2 f1 f2) = cidAt (k1_pay148 (simRun.sl.r c M1 M2 f1 f2)) 8 := by
  rw [sim_r21, sim_r24, p177, p176]; rfl
/-- The similarity body's intermediate x9, in terms of the rounds on the block's chunk maxima. -/
theorem sim_x9 : k1_pay179 ioA (simRun.sl.r_21 c M1 M2 f1 f2) (simRun.sl.r_24 c M1 M2 f1 f2) = cidAt (k1_pay148 (simRun.sl.r c M1 M2 f1 f2)) 9 := by
  rw [sim_r21, sim_r24, p179, p176]; rfl
/-- The similarity body's intermediate r4, in terms of the rounds on the block's chunk maxima. -/
theorem sim_r4 : simRun.sl.r_4 c i M1 M2 f1 f2 = gixAt (BitVec.ofNat 32 ↑(i 0)) (k1_pay148 (simRun.sl.r c M1 M2 f1 f2)) 0 := by
  show addi (muli (simRun.sl.r_3 c M1 M2 f1 f2) (broadcast S128x1 16384#32)) (k1_pay149 (BitVec.ofNat 32 ↑(i 0))) = _
  rw [sim_r3]; rfl
/-- The similarity body's intermediate r7, in terms of the rounds on the block's chunk maxima. -/
theorem sim_r7 : simRun.sl.r_7 c i M1 M2 f1 f2 = gixAt (BitVec.ofNat 32 ↑(i 0)) (k1_pay148 (simRun.sl.r c M1 M2 f1 f2)) 1 := by
  show addi (muli (simRun.sl.r_6 c M1 M2 f1 f2) (broadcast S128x1 16384#32)) (k1_pay149 (BitVec.ofNat 32 ↑(i 0))) = _
  rw [sim_r6]; rfl
/-- The similarity body's intermediate r10, in terms of the rounds on the block's chunk maxima. -/
theorem sim_r10 : simRun.sl.r_10 c i M1 M2 f1 f2 = gixAt (BitVec.ofNat 32 ↑(i 0)) (k1_pay148 (simRun.sl.r c M1 M2 f1 f2)) 2 := by
  show addi (muli (simRun.sl.r_9 c M1 M2 f1 f2) (broadcast S128x1 16384#32)) (k1_pay149 (BitVec.ofNat 32 ↑(i 0))) = _
  rw [sim_r9]; rfl
/-- The similarity body's intermediate r12, in terms of the rounds on the block's chunk maxima. -/
theorem sim_r12 : simRun.sl.r_12 c i M1 M2 f1 f2 = gixAt (BitVec.ofNat 32 ↑(i 0)) (k1_pay148 (simRun.sl.r c M1 M2 f1 f2)) 3 := by
  show addi (muli (simRun.sl.r_11 c M1 M2 f1 f2) (broadcast S128x1 16384#32)) (k1_pay149 (BitVec.ofNat 32 ↑(i 0))) = _
  rw [sim_r11]; rfl
/-- The similarity body's intermediate r15, in terms of the rounds on the block's chunk maxima. -/
theorem sim_r15 : simRun.sl.r_15 c i M1 M2 f1 f2 = gixAt (BitVec.ofNat 32 ↑(i 0)) (k1_pay148 (simRun.sl.r c M1 M2 f1 f2)) 4 := by
  show addi (muli (simRun.sl.r_14 c M1 M2 f1 f2) (broadcast S128x1 16384#32)) (k1_pay149 (BitVec.ofNat 32 ↑(i 0))) = _
  rw [sim_r14]; rfl
/-- The similarity body's intermediate r18, in terms of the rounds on the block's chunk maxima. -/
theorem sim_r18 : simRun.sl.r_18 c i M1 M2 f1 f2 = gixAt (BitVec.ofNat 32 ↑(i 0)) (k1_pay148 (simRun.sl.r c M1 M2 f1 f2)) 5 := by
  show addi (muli (simRun.sl.r_17 c M1 M2 f1 f2) (broadcast S128x1 16384#32)) (k1_pay149 (BitVec.ofNat 32 ↑(i 0))) = _
  rw [sim_r17]; rfl
/-- The similarity body's intermediate r20, in terms of the rounds on the block's chunk maxima. -/
theorem sim_r20 : simRun.sl.r_20 c i M1 M2 f1 f2 = gixAt (BitVec.ofNat 32 ↑(i 0)) (k1_pay148 (simRun.sl.r c M1 M2 f1 f2)) 6 := by
  show addi (muli (simRun.sl.r_19 c M1 M2 f1 f2) (broadcast S128x1 16384#32)) (k1_pay149 (BitVec.ofNat 32 ↑(i 0))) = _
  rw [sim_r19]; rfl
/-- The similarity body's intermediate r23, in terms of the rounds on the block's chunk maxima. -/
theorem sim_r23 : simRun.sl.r_23 c i M1 M2 f1 f2 = gixAt (BitVec.ofNat 32 ↑(i 0)) (k1_pay148 (simRun.sl.r c M1 M2 f1 f2)) 7 := by
  show addi (muli (simRun.sl.r_22 c M1 M2 f1 f2) (broadcast S128x1 16384#32)) (k1_pay149 (BitVec.ofNat 32 ↑(i 0))) = _
  rw [sim_r22]; rfl
/-- The similarity body's intermediate r25, in terms of the rounds on the block's chunk maxima. -/
theorem sim_r25 : simRun.sl.r_25 c i M1 M2 f1 f2 = gixAt (BitVec.ofNat 32 ↑(i 0)) (k1_pay148 (simRun.sl.r c M1 M2 f1 f2)) 8 := by
  show addi (muli (k1_pay177 ioA (simRun.sl.r_21 c M1 M2 f1 f2) (simRun.sl.r_24 c M1 M2 f1 f2)) (broadcast S128x1 16384#32)) (k1_pay149 (BitVec.ofNat 32 ↑(i 0))) = _
  rw [sim_x8]; rfl
/-- The similarity body's intermediate r26, in terms of the rounds on the block's chunk maxima. -/
theorem sim_r26 : simRun.sl.r_26 c i M1 M2 f1 f2 = gixAt (BitVec.ofNat 32 ↑(i 0)) (k1_pay148 (simRun.sl.r c M1 M2 f1 f2)) 9 := by
  show addi (muli (k1_pay179 ioA (simRun.sl.r_21 c M1 M2 f1 f2) (simRun.sl.r_24 c M1 M2 f1 f2)) (broadcast S128x1 16384#32)) (k1_pay149 (BitVec.ofNat 32 ↑(i 0))) = _
  rw [sim_x9]; rfl

/-- The similarity body's chunk numbers. -/
theorem sim_val4 : M4.view.read (Elt F) (simRun (F := F) c i M1 h1 M2 h2 M3 h3 M4 h4 M5 h5 f1 f2).1.2.1
    = cidOut (k1_pay148 (k1_pay2 (M1.view.read (Elt F) f1) (M2.view.read (Elt F) f2))) := by
  show M4.view.read (Elt F) (M4.view.writes (Elt F) M4.view.junk (simRun.sl.H4_1 c M1 M2 f1 f2)) = _
  rw [View.read_writes_junk_eq_canon]
  unfold simRun.sl.H4_1
  rw [View.canon_unit_zero zero2, ← sim_r]
  unfold simRun.sl.r_27 k1_pay181
  show concatenate S128x10 1 [⟨S128x1, simRun.sl.r_3 c M1 M2 f1 f2⟩, ⟨S128x1, simRun.sl.r_6 c M1 M2 f1 f2⟩, ⟨S128x1, simRun.sl.r_9 c M1 M2 f1 f2⟩, ⟨S128x1, simRun.sl.r_11 c M1 M2 f1 f2⟩, ⟨S128x1, simRun.sl.r_14 c M1 M2 f1 f2⟩, ⟨S128x1, simRun.sl.r_17 c M1 M2 f1 f2⟩, ⟨S128x1, simRun.sl.r_19 c M1 M2 f1 f2⟩, ⟨S128x1, simRun.sl.r_22 c M1 M2 f1 f2⟩, ⟨S128x1, k1_pay177 ioA (simRun.sl.r_21 c M1 M2 f1 f2) (simRun.sl.r_24 c M1 M2 f1 f2)⟩, ⟨S128x1, k1_pay179 ioA (simRun.sl.r_21 c M1 M2 f1 f2) (simRun.sl.r_24 c M1 M2 f1 f2)⟩] _ = _
  rw [sim_x8, sim_x9, sim_r3, sim_r6, sim_r9, sim_r11, sim_r14, sim_r17, sim_r19, sim_r22]
  rfl

/-- The similarity body's table rows. -/
theorem sim_val5 : M5.view.read (Elt F) (simRun (F := F) c i M1 h1 M2 h2 M3 h3 M4 h4 M5 h5 f1 f2).1.2.2
    = gixOut (BitVec.ofNat 32 ↑(i 0)) (k1_pay148 (k1_pay2 (M1.view.read (Elt F) f1) (M2.view.read (Elt F) f2))) := by
  show M5.view.read (Elt F) (M5.view.writes (Elt F) M5.view.junk (simRun.sl.H5_1 c i M1 M2 f1 f2)) = _
  rw [View.read_writes_junk_eq_canon]
  unfold simRun.sl.H5_1
  rw [View.canon_unit_zero zero2, ← sim_r]
  rw [sim_r4, sim_r7, sim_r10, sim_r12, sim_r15, sim_r18, sim_r20, sim_r23, sim_r25, sim_r26]
  rfl
end

end Cert.Proof.KI

end
-- ==== Proof.KI.TopVals.lean ====
/-
  What the selection body leaves in its output blocks.
-/
module

public import proofs.«01_k».proof.Proof.KI.BodyVals

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The ten gathered slabs side by side. -/
def candOf (x : FVec F S10x128x128 .f32) : FVec F S128x1280 .f32 :=
  k3_pay1 (View.ld x (Rect.unit (s := S10x128x128) ![0, 0, 0] S1x128x128.size inb_S10x128x128_S1x128x128_0_0_0)) (View.ld x (Rect.unit (s := S10x128x128) ![1, 0, 0] S1x128x128.size inb_S10x128x128_S1x128x128_1_0_0)) (View.ld x (Rect.unit (s := S10x128x128) ![2, 0, 0] S1x128x128.size inb_S10x128x128_S1x128x128_2_0_0)) (View.ld x (Rect.unit (s := S10x128x128) ![3, 0, 0] S1x128x128.size inb_S10x128x128_S1x128x128_3_0_0)) (View.ld x (Rect.unit (s := S10x128x128) ![4, 0, 0] S1x128x128.size inb_S10x128x128_S1x128x128_4_0_0)) (View.ld x (Rect.unit (s := S10x128x128) ![5, 0, 0] S1x128x128.size inb_S10x128x128_S1x128x128_5_0_0)) (View.ld x (Rect.unit (s := S10x128x128) ![6, 0, 0] S1x128x128.size inb_S10x128x128_S1x128x128_6_0_0)) (View.ld x (Rect.unit (s := S10x128x128) ![7, 0, 0] S1x128x128.size inb_S10x128x128_S1x128x128_7_0_0)) (View.ld x (Rect.unit (s := S10x128x128) ![8, 0, 0] S1x128x128.size inb_S10x128x128_S1x128x128_8_0_0)) (View.ld x (Rect.unit (s := S10x128x128) ![9, 0, 0] S1x128x128.size inb_S10x128x128_S1x128x128_9_0_0))

/-- The column numbers of the ten gathered slabs, side by side. -/
def gcolOf (y : IVec S128x10 32) : IVec S128x1280 32 :=
  k3_pay3 (broadcastTo S128x10x128 (shapeCast S128x10x1 (shapeCast S128x10x1 (shapeCast S128x10 y shapeCasts_S128x10_S128x10) shapeCasts_S128x10_S128x10x1) shapeCasts_S128x10x1_S128x10x1) broadcasts_S128x10x1_S128x10x128) (iota .tc S128x10x128 32 [2] iota_S128x10x128_d2_w32)

/-- The ten selected values. -/
def topVals (g : IVec S128x1280 32) (v : FVec F S128x1280 .f32) : FVec F S128x10 .f32 :=
  concatenate S128x10 1 [⟨S128x1, mxB (rdB g 16384#32 v 0)⟩, ⟨S128x1, mxB (rdB g 16384#32 v 1)⟩, ⟨S128x1, mxB (rdB g 16384#32 v 2)⟩, ⟨S128x1, mxB (rdB g 16384#32 v 3)⟩, ⟨S128x1, mxB (rdB g 16384#32 v 4)⟩, ⟨S128x1, mxB (rdB g 16384#32 v 5)⟩, ⟨S128x1, mxB (rdB g 16384#32 v 6)⟩, ⟨S128x1, mxB (rdB g 16384#32 v 7)⟩, ⟨S128x1, mxB (rdB g 16384#32 v 8)⟩, ⟨S128x1, mxB (rdB g 16384#32 v 9)⟩]
    concatenates_S128x1_S128x1_S128x1_S128x1_S128x1_S128x1_S128x1_S128x1_S128x1_S128x1_S128x10_d1

/-- The ten selected columns. -/
def topIxs (g : IVec S128x1280 32) (v : FVec F S128x1280 .f32) : IVec S128x10 32 :=
  concatenate S128x10 1 [⟨S128x1, ixB g 16384#32 (rdB g 16384#32 v 0)⟩, ⟨S128x1, ixB g 16384#32 (rdB g 16384#32 v 1)⟩, ⟨S128x1, ixB g 16384#32 (rdB g 16384#32 v 2)⟩, ⟨S128x1, ixB g 16384#32 (rdB g 16384#32 v 3)⟩, ⟨S128x1, ixB g 16384#32 (rdB g 16384#32 v 4)⟩, ⟨S128x1, ixB g 16384#32 (rdB g 16384#32 v 5)⟩, ⟨S128x1, ixB g 16384#32 (rdB g 16384#32 v 6)⟩, ⟨S128x1, ixB g 16384#32 (rdB g 16384#32 v 7)⟩, ⟨S128x1, ixB g 16384#32 (rdB g 16384#32 v 8)⟩, ⟨S128x1, ixB g 16384#32 (rdB g 16384#32 v 9)⟩]
    concatenates_S128x1_S128x1_S128x1_S128x1_S128x1_S128x1_S128x1_S128x1_S128x1_S128x1_S128x10_d1

section
variable (g b : IVec S128x1280 32) (v : FVec F S128x1280 .f32) (p : IVec S128x1280 1) (q : FVec F S128x1 .f32)
/-- The selecting body's value 20 is a step of its rounds: the row's maximum, the column chosen, or what the round leaves. -/
theorem t20 : k3_pay20 g v p b = nxB g 16384#32 (k3_pay17 g v p b) := rfl
/-- The selecting body's value 23 is a step of its rounds: the row's maximum, the column chosen, or what the round leaves. -/
theorem t23 : k3_pay23 g v p b = nxB g 16384#32 (k3_pay20 g v p b) := rfl
/-- The selecting body's value 26 is a step of its rounds: the row's maximum, the column chosen, or what the round leaves. -/
theorem t26 : k3_pay26 g v p b = nxB g 16384#32 (k3_pay23 g v p b) := rfl
/-- The selecting body's value 18 is a step of its rounds: the row's maximum, the column chosen, or what the round leaves. -/
theorem t18 : k3_pay18 g v p b = mxB (k3_pay17 g v p b) := rfl
/-- The selecting body's value 21 is a step of its rounds: the row's maximum, the column chosen, or what the round leaves. -/
theorem t21 : k3_pay21 g v p b = mxB (k3_pay20 g v p b) := rfl
/-- The selecting body's value 24 is a step of its rounds: the row's maximum, the column chosen, or what the round leaves. -/
theorem t24 : k3_pay24 g v p b = mxB (k3_pay23 g v p b) := rfl
/-- The selecting body's value 27 is a step of its rounds: the row's maximum, the column chosen, or what the round leaves. -/
theorem t27 : k3_pay27 g v p b = mxB (k3_pay26 g v p b) := rfl
/-- The selecting body's value 19 is a step of its rounds: the row's maximum, the column chosen, or what the round leaves. -/
theorem t19 : k3_pay19 g v p b = ixB g 16384#32 (k3_pay17 g v p b) := rfl
/-- The selecting body's value 22 is a step of its rounds: the row's maximum, the column chosen, or what the round leaves. -/
theorem t22 : k3_pay22 g v p b = ixB g 16384#32 (k3_pay20 g v p b) := rfl
/-- The selecting body's value 25 is a step of its rounds: the row's maximum, the column chosen, or what the round leaves. -/
theorem t25 : k3_pay25 g v p b = ixB g 16384#32 (k3_pay23 g v p b) := rfl
/-- The selecting body's value 16 is a step of its rounds: the row's maximum, the column chosen, or what the round leaves. -/
theorem t16 (t : ℕ) (x : FVec F S128x1280 .f32) : k3_pay16 g (cmpf .oge (rdB g 16384#32 x t) (broadcastTo S128x1280 (mxB (rdB g 16384#32 x t)) broadcasts_S128x1_S128x1280)) k3_pay15 = ixB g 16384#32 (rdB g 16384#32 x t) := rfl
/-- The selecting body's value 17 is a step of its rounds: the row's maximum, the column chosen, or what the round leaves. -/
theorem t17 (t : ℕ) (x : FVec F S128x1280 .f32) : k3_pay17 g (rdB g 16384#32 x t) (cmpf .oge (rdB g 16384#32 x t) (broadcastTo S128x1280 (mxB (rdB g 16384#32 x t)) broadcasts_S128x1_S128x1280)) k3_pay15 = rdB g 16384#32 x (t + 1) := rfl
/-- The selecting body's value 28 is a step of its rounds: the row's maximum, the column chosen, or what the round leaves. -/
theorem t28 : k3_pay28 g v (mxB v) = ixB g 16384#32 v := rfl
/-- The selecting body's value 29 is a step of its rounds: the row's maximum, the column chosen, or what the round leaves. -/
theorem t29 : k3_pay29 g v (mxB v) = nxB g 16384#32 v := rfl
/-- The selecting body's value 30 is a step of its rounds: the row's maximum, the column chosen, or what the round leaves. -/
theorem t30 : k3_pay30 g v q = mxB (k3_pay29 g v q) := rfl
/-- The selecting body's value 31 is a step of its rounds: the row's maximum, the column chosen, or what the round leaves. -/
theorem t31 : k3_pay31 g v q = ixB g 16384#32 (k3_pay29 g v q) := rfl
/-- The selecting body's value 32 is a step of its rounds: the row's maximum, the column chosen, or what the round leaves. -/
theorem t32 : k3_pay32 g v q = nxB g 16384#32 (k3_pay29 g v q) := rfl
/-- The selecting body's value 33 is a step of its rounds: the row's maximum, the column chosen, or what the round leaves. -/
theorem t33 : k3_pay33 g v q = mxB (k3_pay32 g v q) := rfl
variable (y z : IVec S128x10x128 32)
/-- The selecting body's value 6 is a step of its rounds: the row's maximum, the column chosen, or what the round leaves. -/
theorem t6 : k3_pay6 v y z = nxB (k3_pay3 y z) 16384#32 v := rfl
/-- The selecting body's value 9 is a step of its rounds: the row's maximum, the column chosen, or what the round leaves. -/
theorem t9 : k3_pay9 v y z = nxB (k3_pay3 y z) 16384#32 (k3_pay6 v y z) := rfl
/-- The selecting body's value 12 is a step of its rounds: the row's maximum, the column chosen, or what the round leaves. -/
theorem t12 : k3_pay12 v y z = nxB (k3_pay3 y z) 16384#32 (k3_pay9 v y z) := rfl
/-- The selecting body's value 7 is a step of its rounds: the row's maximum, the column chosen, or what the round leaves. -/
theorem t7 : k3_pay7 v y z = mxB (k3_pay6 v y z) := rfl
/-- The selecting body's value 10 is a step of its rounds: the row's maximum, the column chosen, or what the round leaves. -/
theorem t10 : k3_pay10 v y z = mxB (k3_pay9 v y z) := rfl
/-- The selecting body's value 13 is a step of its rounds: the row's maximum, the column chosen, or what the round leaves. -/
theorem t13 : k3_pay13 v y z = mxB (k3_pay12 v y z) := rfl
/-- The selecting body's value 8 is a step of its rounds: the row's maximum, the column chosen, or what the round leaves. -/
theorem t8 : k3_pay8 v y z = ixB (k3_pay3 y z) 16384#32 (k3_pay6 v y z) := rfl
/-- The selecting body's value 11 is a step of its rounds: the row's maximum, the column chosen, or what the round leaves. -/
theorem t11 : k3_pay11 v y z = ixB (k3_pay3 y z) 16384#32 (k3_pay9 v y z) := rfl
/-- The selecting body's value 5 is a step of its rounds: the row's maximum, the column chosen, or what the round leaves. -/
theorem t5 : k3_pay5 v y z = ixB (k3_pay3 y z) 16384#32 v := rfl
/-- The selecting body's value 14 is a step of its rounds: the row's maximum, the column chosen, or what the round leaves. -/
theorem t14 : k3_pay14 v y z = cmpf .oge (k3_pay12 v y z) (broadcastTo S128x1280 (k3_pay13 v y z) broadcasts_S128x1_S128x1280) := rfl
end

section
variable (c : Dev nD) (i : grid3.Coords) (M1 : Memref sig .tc .vmem S10x128x128 .f32) (h1 : M1.IsWhole) (M2 : Memref sig .tc .vmem S128x10 .i32) (h2 : M2.IsWhole)
    (M3 : Memref sig .tc .vmem S128x10 .f32) (h3 : M3.IsWhole) (M4 : Memref sig .tc .vmem S128x10 .i32) (h4 : M4.IsWhole) (M5 : Memref sig .tc .vmem S128x10 .f32) (h5 : M5.IsWhole)
    (f1 : Bf (F := F) c M1) (f2 : Bf (F := F) c M2)

/-- The candidates are the ten slabs side by side. -/
theorem top_v20 : topkRun.sl.v20 c M1 f1 = candOf (M1.view.read (Elt F) f1) := rfl

/-- The candidates' columns are computed from the chunk numbers. -/
theorem top_r : topkRun.sl.r c M2 f2 = gcolOf (M2.view.read (Elt F) f2) := by
  show k3_pay3 (broadcastTo S128x10x128 (shapeCast S128x10x1 (shapeCast S128x10x1 (shapeCast S128x10 (M2.view.readAt (Elt F) (Rect.unit (s := S128x10) ![0, 0] S128x10.size inb_S128x10_S128x10_0_0).toLoadRect f2) shapeCasts_S128x10_S128x10) shapeCasts_S128x10_S128x10x1) shapeCasts_S128x10x1_S128x10x1) broadcasts_S128x10x1_S128x10x128) (iota .tc S128x10x128 32 [2] iota_S128x10x128_d2_w32) = _
  rw [View.readAt_eq_ld, View.ld_unit_zero zero2]
  rfl

/-- The selecting body's intermediate 1, in terms of the rounds on the block's candidates. -/
theorem top_r1 : topkRun.sl.r_1 c M1 f1 = mxB (topkRun.sl.v20 c M1 f1) := by
  rfl
/-- The selecting body's intermediate 2, in terms of the rounds on the block's candidates. -/
theorem top_r2 : topkRun.sl.r_2 c M1 M2 f1 f2 = ixB (topkRun.sl.r c M2 f2) 16384#32 (rdB (topkRun.sl.r c M2 f2) 16384#32 (topkRun.sl.v20 c M1 f1) 0) := by
  rfl
/-- The selecting body's intermediate 3, in terms of the rounds on the block's candidates. -/
theorem top_r3 : topkRun.sl.r_3 c M1 M2 f1 f2 = mxB (rdB (topkRun.sl.r c M2 f2) 16384#32 (topkRun.sl.v20 c M1 f1) 1) := by
  show k3_pay7 (topkRun.sl.v20 c M1 f1) (topkRun.sl.v25 c M2 f2) topkRun.sl.v26 = _
  rw [t7, t6]; rfl
/-- The selecting body's intermediate 4, in terms of the rounds on the block's candidates. -/
theorem top_r4 : topkRun.sl.r_4 c M1 M2 f1 f2 = ixB (topkRun.sl.r c M2 f2) 16384#32 (rdB (topkRun.sl.r c M2 f2) 16384#32 (topkRun.sl.v20 c M1 f1) 1) := by
  show k3_pay8 (topkRun.sl.v20 c M1 f1) (topkRun.sl.v25 c M2 f2) topkRun.sl.v26 = _
  rw [t8, t6]; rfl
/-- The selecting body's intermediate 5, in terms of the rounds on the block's candidates. -/
theorem top_r5 : topkRun.sl.r_5 c M1 M2 f1 f2 = mxB (rdB (topkRun.sl.r c M2 f2) 16384#32 (topkRun.sl.v20 c M1 f1) 2) := by
  show k3_pay10 (topkRun.sl.v20 c M1 f1) (topkRun.sl.v25 c M2 f2) topkRun.sl.v26 = _
  rw [t10, t9, t6]; rfl
/-- The selecting body's intermediate 6, in terms of the rounds on the block's candidates. -/
theorem top_r6 : topkRun.sl.r_6 c M1 M2 f1 f2 = ixB (topkRun.sl.r c M2 f2) 16384#32 (rdB (topkRun.sl.r c M2 f2) 16384#32 (topkRun.sl.v20 c M1 f1) 2) := by
  show k3_pay11 (topkRun.sl.v20 c M1 f1) (topkRun.sl.v25 c M2 f2) topkRun.sl.v26 = _
  rw [t11, t9, t6]; rfl
/-- The selecting body's intermediate 7, in terms of the rounds on the block's candidates. -/
theorem top_r7 : topkRun.sl.r_7 c M1 M2 f1 f2 = rdB (topkRun.sl.r c M2 f2) 16384#32 (topkRun.sl.v20 c M1 f1) 3 := by
  show k3_pay12 (topkRun.sl.v20 c M1 f1) (topkRun.sl.v25 c M2 f2) topkRun.sl.v26 = _
  rw [t12, t9, t6]; rfl
/-- The selecting body's intermediate 8, in terms of the rounds on the block's candidates. -/
theorem top_r8 : topkRun.sl.r_8 c M1 M2 f1 f2 = mxB (rdB (topkRun.sl.r c M2 f2) 16384#32 (topkRun.sl.v20 c M1 f1) 3) := by
  show k3_pay13 (topkRun.sl.v20 c M1 f1) (topkRun.sl.v25 c M2 f2) topkRun.sl.v26 = _
  rw [t13, t12, t9, t6]; rfl
/-- The selecting body's intermediate 9, in terms of the rounds on the block's candidates. -/
theorem top_r9 : topkRun.sl.r_9 c M1 M2 f1 f2 = cmpf .oge (rdB (topkRun.sl.r c M2 f2) 16384#32 (topkRun.sl.v20 c M1 f1) 3) (broadcastTo S128x1280 (mxB (rdB (topkRun.sl.r c M2 f2) 16384#32 (topkRun.sl.v20 c M1 f1) 3)) broadcasts_S128x1_S128x1280) := by
  show k3_pay14 (topkRun.sl.v20 c M1 f1) (topkRun.sl.v25 c M2 f2) topkRun.sl.v26 = _
  rw [t14, t13, t12, t9, t6]; rfl
/-- The selecting body's intermediate 10, in terms of the rounds on the block's candidates. -/
theorem top_r10 : topkRun.sl.r_10 c M1 M2 f1 f2 = ixB (topkRun.sl.r c M2 f2) 16384#32 (rdB (topkRun.sl.r c M2 f2) 16384#32 (topkRun.sl.v20 c M1 f1) 3) := by
  show k3_pay16 (topkRun.sl.r c M2 f2) (topkRun.sl.r_9 c M1 M2 f1 f2) k3_pay15 = _
  rw [top_r9, t16]
/-- The selecting body's intermediate 11, in terms of the rounds on the block's candidates. -/
theorem top_r11 : topkRun.sl.r_11 c M1 M2 f1 f2 = mxB (rdB (topkRun.sl.r c M2 f2) 16384#32 (topkRun.sl.v20 c M1 f1) 4) := by
  show k3_pay18 (topkRun.sl.r c M2 f2) (topkRun.sl.r_7 c M1 M2 f1 f2) (topkRun.sl.r_9 c M1 M2 f1 f2) k3_pay15 = _
  rw [top_r9, top_r7, t18, t17]
/-- The selecting body's intermediate 12, in terms of the rounds on the block's candidates. -/
theorem top_r12 : topkRun.sl.r_12 c M1 M2 f1 f2 = ixB (topkRun.sl.r c M2 f2) 16384#32 (rdB (topkRun.sl.r c M2 f2) 16384#32 (topkRun.sl.v20 c M1 f1) 4) := by
  show k3_pay19 (topkRun.sl.r c M2 f2) (topkRun.sl.r_7 c M1 M2 f1 f2) (topkRun.sl.r_9 c M1 M2 f1 f2) k3_pay15 = _
  rw [top_r9, top_r7, t19, t17]
/-- The selecting body's intermediate 13, in terms of the rounds on the block's candidates. -/
theorem top_r13 : topkRun.sl.r_13 c M1 M2 f1 f2 = mxB (rdB (topkRun.sl.r c M2 f2) 16384#32 (topkRun.sl.v20 c M1 f1) 5) := by
  show k3_pay21 (topkRun.sl.r c M2 f2) (topkRun.sl.r_7 c M1 M2 f1 f2) (topkRun.sl.r_9 c M1 M2 f1 f2) k3_pay15 = _
  rw [top_r9, top_r7, t21, t20, t17]; rfl
/-- The selecting body's intermediate 14, in terms of the rounds on the block's candidates. -/
theorem top_r14 : topkRun.sl.r_14 c M1 M2 f1 f2 = ixB (topkRun.sl.r c M2 f2) 16384#32 (rdB (topkRun.sl.r c M2 f2) 16384#32 (topkRun.sl.v20 c M1 f1) 5) := by
  show k3_pay22 (topkRun.sl.r c M2 f2) (topkRun.sl.r_7 c M1 M2 f1 f2) (topkRun.sl.r_9 c M1 M2 f1 f2) k3_pay15 = _
  rw [top_r9, top_r7, t22, t20, t17]; rfl
/-- The selecting body's intermediate 15, in terms of the rounds on the block's candidates. -/
theorem top_r15 : topkRun.sl.r_15 c M1 M2 f1 f2 = mxB (rdB (topkRun.sl.r c M2 f2) 16384#32 (topkRun.sl.v20 c M1 f1) 6) := by
  show k3_pay24 (topkRun.sl.r c M2 f2) (topkRun.sl.r_7 c M1 M2 f1 f2) (topkRun.sl.r_9 c M1 M2 f1 f2) k3_pay15 = _
  rw [top_r9, top_r7, t24, t23, t20, t17]; rfl
/-- The selecting body's intermediate 16, in terms of the rounds on the block's candidates. -/
theorem top_r16 : topkRun.sl.r_16 c M1 M2 f1 f2 = ixB (topkRun.sl.r c M2 f2) 16384#32 (rdB (topkRun.sl.r c M2 f2) 16384#32 (topkRun.sl.v20 c M1 f1) 6) := by
  show k3_pay25 (topkRun.sl.r c M2 f2) (topkRun.sl.r_7 c M1 M2 f1 f2) (topkRun.sl.r_9 c M1 M2 f1 f2) k3_pay15 = _
  rw [top_r9, top_r7, t25, t23, t20, t17]; rfl
/-- The selecting body's intermediate 17, in terms of the rounds on the block's candidates. -/
theorem top_r17 : topkRun.sl.r_17 c M1 M2 f1 f2 = rdB (topkRun.sl.r c M2 f2) 16384#32 (topkRun.sl.v20 c M1 f1) 7 := by
  show k3_pay26 (topkRun.sl.r c M2 f2) (topkRun.sl.r_7 c M1 M2 f1 f2) (topkRun.sl.r_9 c M1 M2 f1 f2) k3_pay15 = _
  rw [top_r9, top_r7, t26, t23, t20, t17]; rfl
/-- The selecting body's intermediate 18, in terms of the rounds on the block's candidates. -/
theorem top_r18 : topkRun.sl.r_18 c M1 M2 f1 f2 = mxB (rdB (topkRun.sl.r c M2 f2) 16384#32 (topkRun.sl.v20 c M1 f1) 7) := by
  show k3_pay27 (topkRun.sl.r c M2 f2) (topkRun.sl.r_7 c M1 M2 f1 f2) (topkRun.sl.r_9 c M1 M2 f1 f2) k3_pay15 = _
  rw [top_r9, top_r7, t27, t26, t23, t20, t17]; rfl

/-- The selection body's values. -/
theorem topk_val3 : M3.view.read (Elt F) (topkRun (F := F) c i M1 h1 M2 h2 M3 h3 M4 h4 M5 h5 f1 f2).1.1
    = topVals (gcolOf (M2.view.read (Elt F) f2)) (candOf (M1.view.read (Elt F) f1)) := by
  show M3.view.read (Elt F) (M3.view.writes (Elt F) M3.view.junk (topkRun.sl.H3_1 c M1 M2 f1 f2)) = _
  rw [View.read_writes_junk_eq_canon]
  unfold topkRun.sl.H3_1
  rw [View.canon_unit_zero zero2]
  show concatenate S128x10 1 [⟨S128x1, topkRun.sl.r_1 c M1 f1⟩, ⟨S128x1, topkRun.sl.r_3 c M1 M2 f1 f2⟩, ⟨S128x1, topkRun.sl.r_5 c M1 M2 f1 f2⟩, ⟨S128x1, topkRun.sl.r_8 c M1 M2 f1 f2⟩, ⟨S128x1, topkRun.sl.r_11 c M1 M2 f1 f2⟩, ⟨S128x1, topkRun.sl.r_13 c M1 M2 f1 f2⟩, ⟨S128x1, topkRun.sl.r_15 c M1 M2 f1 f2⟩, ⟨S128x1, topkRun.sl.r_18 c M1 M2 f1 f2⟩, ⟨S128x1, k3_pay30 (topkRun.sl.r c M2 f2) (topkRun.sl.r_17 c M1 M2 f1 f2) (topkRun.sl.r_18 c M1 M2 f1 f2)⟩, ⟨S128x1, k3_pay33 (topkRun.sl.r c M2 f2) (topkRun.sl.r_17 c M1 M2 f1 f2) (topkRun.sl.r_18 c M1 M2 f1 f2)⟩]
    concatenates_S128x1_S128x1_S128x1_S128x1_S128x1_S128x1_S128x1_S128x1_S128x1_S128x1_S128x10_d1 = _
  rw [t33, t32, t30, top_r18, top_r17, t29, top_r1, top_r3, top_r5, top_r8, top_r11, top_r13, top_r15, ← top_r c M2 f2, ← top_v20 c M1 f1]
  rfl

/-- The selection body's columns. -/
theorem topk_val4 : M4.view.read (Elt F) (topkRun (F := F) c i M1 h1 M2 h2 M3 h3 M4 h4 M5 h5 f1 f2).1.2.1
    = topIxs (gcolOf (M2.view.read (Elt F) f2)) (candOf (M1.view.read (Elt F) f1)) := by
  show M4.view.read (Elt F) (M4.view.writes (Elt F) M4.view.junk (topkRun.sl.H4_1 c M1 M2 f1 f2)) = _
  rw [View.read_writes_junk_eq_canon]
  unfold topkRun.sl.H4_1
  rw [View.canon_unit_zero zero2]
  show concatenate S128x10 1 [⟨S128x1, topkRun.sl.r_2 c M1 M2 f1 f2⟩, ⟨S128x1, topkRun.sl.r_4 c M1 M2 f1 f2⟩, ⟨S128x1, topkRun.sl.r_6 c M1 M2 f1 f2⟩, ⟨S128x1, topkRun.sl.r_10 c M1 M2 f1 f2⟩, ⟨S128x1, topkRun.sl.r_12 c M1 M2 f1 f2⟩, ⟨S128x1, topkRun.sl.r_14 c M1 M2 f1 f2⟩, ⟨S128x1, topkRun.sl.r_16 c M1 M2 f1 f2⟩, ⟨S128x1, k3_pay28 (topkRun.sl.r c M2 f2) (topkRun.sl.r_17 c M1 M2 f1 f2) (topkRun.sl.r_18 c M1 M2 f1 f2)⟩, ⟨S128x1, k3_pay31 (topkRun.sl.r c M2 f2) (topkRun.sl.r_17 c M1 M2 f1 f2) (topkRun.sl.r_18 c M1 M2 f1 f2)⟩, ⟨S128x1, ixB (topkRun.sl.r c M2 f2) 16384#32 (k3_pay32 (topkRun.sl.r c M2 f2) (topkRun.sl.r_17 c M1 M2 f1 f2) (topkRun.sl.r_18 c M1 M2 f1 f2))⟩]
    concatenates_S128x1_S128x1_S128x1_S128x1_S128x1_S128x1_S128x1_S128x1_S128x1_S128x1_S128x10_d1 = _
  rw [t32, t31, top_r18, top_r17, t28, t29, top_r2, top_r4, top_r6, top_r10, top_r12, top_r14, top_r16, ← top_r c M2 f2, ← top_v20 c M1 f1]
  rfl

/-- The selection body's weights. -/
theorem topk_val5 : M5.view.read (Elt F) (topkRun (F := F) c i M1 h1 M2 h2 M3 h3 M4 h4 M5 h5 f1 f2).1.2.2
    = k3_pay36 := by
  show M5.view.read (Elt F) (M5.view.writes (Elt F) M5.view.junk (topkRun.sl.H5_1)) = _
  rw [View.read_writes_junk_eq_canon]
  unfold topkRun.sl.H5_1
  rw [View.canon_unit_zero zero2]
end

end Cert.Proof.KI

end
-- ==== Proof.KI.Rows.lean ====
/-
  One row of the selection: the ten columns that the program takes are the ten greatest of the row's similarities.
-/
module

public import proofs.«01_k».proof.Proof.KI.TopVals

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A chunk's maximum. -/
theorem m_row (v4 : FVec Ideal S128x16384 .f32) (r q : Fin 128) :
    k1_pay148 v4 (ix2 r q) = rowMax fun w : Fin 128 => v4 (ix2 r ⟨q.val * 128 + w.val, by omega⟩) := by
  unfold k1_pay148 rowMax
  pointwise

/-- The chunk that round `k` chose for row `r`. -/
theorem cid_at (m : FVec F S128x128 .f32) (r : Fin 128) (k : Fin 10) : cidOut m (ix2 r k) = cidAt m k.val (ix2 r 0) := by
  unfold cidOut
  generalize cidAt m = f
  pointwise
  fin_cases k <;> rfl

/-- The table row that round `k` names for row `r`. -/
theorem gix_at (i : BitVec 32) (m : FVec F S128x128 .f32) (r : Fin 128) (k : Fin 10) :
    gixOut i m (ix2 r k) = cidAt m k.val (ix2 r 0) * 16384#32 + (i * 128#32 + BitVec.ofNat 32 r.val) := by
  have h : gixOut i m (ix2 r k) = gixAt i m k.val (ix2 r 0) := by
    unfold gixOut
    generalize gixAt i m = f
    pointwise
    fin_cases k <;> rfl
  rw [h]
  unfold gixAt k1_pay149
  generalize cidAt m k.val = f
  pointwise
  exact congrArg (f (ix2 r 0) * 16384#32 + ·) (BitVec.add_comm _ _)

/-- The value that round `k` of the second selection chose for row `r`. -/
theorem vals_at (g : IVec S128x1280 32) (v : FVec F S128x1280 .f32) (r : Fin 128) (k : Fin 10) :
    topVals g v (ix2 r k) = mxB (rdB g 16384#32 v k.val) (ix2 r 0) := by
  unfold topVals
  generalize rdB g 16384#32 v = f
  pointwise
  fin_cases k <;> rfl

/-- The column that round `k` of the second selection chose for row `r`. -/
theorem ixs_at (g : IVec S128x1280 32) (v : FVec F S128x1280 .f32) (r : Fin 128) (k : Fin 10) :
    topIxs g v (ix2 r k) = ixB g 16384#32 (rdB g 16384#32 v k.val) (ix2 r 0) := by
  unfold topIxs
  generalize rdB g 16384#32 v = f
  pointwise
  fin_cases k <;> rfl

/-- The column that candidate `p` of row `r` stands for: its chunk's first column and its place there. -/
theorem gcol_at (y : IVec S128x10 32) (r : Fin 128) (p : Fin 1280) :
    gcolOf y (ix2 r p) = y (ix2 r ⟨p.val / 128, by omega⟩) * 128#32 + BitVec.ofNat 32 (p.val % 128) := by
  unfold gcolOf k3_pay3
  pointwise
  rfl

/-- Reading at equal numbers is reading the same entry. -/
theorem ix3_ext {α : Type} (x : S10x128x128.Idx → α) (r : Fin 128) {a a' : Fin 10} {b b' : Fin 128} (ha : a.val = a'.val) (hb : b.val = b'.val) :
    x (ix3 a r b) = x (ix3 a' r b') := by
  rw [Fin.ext ha, Fin.ext hb]

/-- Candidate `p` of row `r`: the entry of its slab. -/
theorem cand_at (x : FVec F S10x128x128 .f32) (r : Fin 128) (p : Fin 1280) :
    candOf x (ix2 r p) = x (ix3 ⟨p.val / 128, by omega⟩ r ⟨p.val % 128, by omega⟩) := by
  have hp := p.isLt
  unfold candOf k3_pay1
  pointwise
  by_cases h0 : p.val < 128
  · rw [dif_pos h0]
    exact ix3_ext x r (show (0 : ℕ) = p.val / 128 by omega) (show p.val = p.val % 128 by omega)
  rw [dif_neg h0]
  by_cases h1 : p.val - 128 < 128
  · rw [dif_pos h1]
    exact ix3_ext x r (show (1 : ℕ) = p.val / 128 by omega) (show p.val - 128 = p.val % 128 by omega)
  rw [dif_neg h1]
  by_cases h2 : p.val - 128 - 128 < 128
  · rw [dif_pos h2]
    exact ix3_ext x r (show (2 : ℕ) = p.val / 128 by omega) (show p.val - 128 - 128 = p.val % 128 by omega)
  rw [dif_neg h2]
  by_cases h3 : p.val - 128 - 128 - 128 < 128
  · rw [dif_pos h3]
    exact ix3_ext x r (show (3 : ℕ) = p.val / 128 by omega) (show p.val - 128 - 128 - 128 = p.val % 128 by omega)
  rw [dif_neg h3]
  by_cases h4 : p.val - 128 - 128 - 128 - 128 < 128
  · rw [dif_pos h4]
    exact ix3_ext x r (show (4 : ℕ) = p.val / 128 by omega) (show p.val - 128 - 128 - 128 - 128 = p.val % 128 by omega)
  rw [dif_neg h4]
  by_cases h5 : p.val - 128 - 128 - 128 - 128 - 128 < 128
  · rw [dif_pos h5]
    exact ix3_ext x r (show (5 : ℕ) = p.val / 128 by omega) (show p.val - 128 - 128 - 128 - 128 - 128 = p.val % 128 by omega)
  rw [dif_neg h5]
  by_cases h6 : p.val - 128 - 128 - 128 - 128 - 128 - 128 < 128
  · rw [dif_pos h6]
    exact ix3_ext x r (show (6 : ℕ) = p.val / 128 by omega) (show p.val - 128 - 128 - 128 - 128 - 128 - 128 = p.val % 128 by omega)
  rw [dif_neg h6]
  by_cases h7 : p.val - 128 - 128 - 128 - 128 - 128 - 128 - 128 < 128
  · rw [dif_pos h7]
    exact ix3_ext x r (show (7 : ℕ) = p.val / 128 by omega) (show p.val - 128 - 128 - 128 - 128 - 128 - 128 - 128 = p.val % 128 by omega)
  rw [dif_neg h7]
  by_cases h8 : p.val - 128 - 128 - 128 - 128 - 128 - 128 - 128 - 128 < 128
  · rw [dif_pos h8]
    exact ix3_ext x r (show (8 : ℕ) = p.val / 128 by omega) (show p.val - 128 - 128 - 128 - 128 - 128 - 128 - 128 - 128 = p.val % 128 by omega)
  rw [dif_neg h8]
  exact ix3_ext x r (show (9 : ℕ) = p.val / 128 by omega) (show p.val - 128 - 128 - 128 - 128 - 128 - 128 - 128 - 128 - 128 = p.val % 128 by omega)

/-- The chunk counter at a chunk is its number. -/
theorem ioA_at (r q : Fin 128) : ioA (ix2 r q) = BitVec.ofNat 32 q.val := by
  unfold ioA
  pointwise

/-- A column of the whole row, from its chunk and its place there. -/
def posOf (q w : Fin 128) : Fin 16384 := ⟨q.val * 128 + w.val, by omega⟩

/-- A selection stays one when the things selected are renamed. -/
theorem IsSel.comp {β γ : Type} {v : β → EReal} {gl : β → ℕ} {k : ℕ} {σ : ℕ → β} (h : IsSel v gl k σ) (e : β ≃ γ) :
    IsSel (fun c => v (e.symm c)) (fun c => gl (e.symm c)) k (fun t => e (σ t)) := by
  intro t ht
  obtain ⟨h1, h2⟩ := h t ht
  refine ⟨fun s hs he => h1 s hs (e.injective he), fun b hb => ?_⟩
  have := h2 (e.symm b) (fun s hs he => hb s hs ((congrArg e he).trans (e.apply_symm_apply b)))
  unfold Beats at this ⊢
  simpa using this

/-- The ten slabs' columns, by slab and place. -/
def slabPos : Fin 1280 ≃ Fin 10 × Fin 128 where
  toFun p := (⟨p.val / 128, by omega⟩, ⟨p.val % 128, by omega⟩)
  invFun q := ⟨q.1.val * 128 + q.2.val, by omega⟩
  left_inv p := Fin.ext (by show p.val / 128 * 128 + p.val % 128 = p.val; omega)
  right_inv q := by
    obtain ⟨a, b⟩ := q
    refine Prod.ext (Fin.ext ?_) (Fin.ext ?_)
    · show (a.val * 128 + b.val) / 128 = a.val; omega
    · show (a.val * 128 + b.val) % 128 = b.val; omega

/-- The row's selection: the ten columns that come out are the ten greatest entries of the row, of equal ones the lowest
    column first, and the values that come out are theirs. -/
theorem row_sel (v4 : FVec Ideal S128x16384 .f32) (t r : Fin 128) (x : FVec Ideal S10x128x128 .f32)
    (hx : ∀ (k : Fin 10) (w q : Fin 128), gixOut (BitVec.ofNat 32 t.val) (k1_pay148 v4) (ix2 r k) = BitVec.ofNat 32 (q.val * 16384 + (t.val * 128 + r.val)) →
      x (ix3 k r w) = v4 (ix2 r ⟨128 * q.val + w.val, by omega⟩))
    (hfin : ∀ j : Fin 16384, (⊥ : EReal) < v4 (ix2 r j)) :
    ∃ π : ℕ → Fin 16384, IsSel (fun j : Fin 16384 => (v4 (ix2 r j) : EReal)) (fun j => (j : ℕ)) 10 π ∧
      ∀ k : Fin 10, topVals (gcolOf (cidOut (k1_pay148 v4))) (candOf x) (ix2 r k) = v4 (ix2 r (π k.val)) ∧
        topIxs (gcolOf (cidOut (k1_pay148 v4))) (candOf x) (ix2 r k) = BitVec.ofNat 32 (π k.val).val := by
  -- the chunks
  have hM : ∀ q : Fin 128, (∃ w, v4 (ix2 r (posOf q w)) = k1_pay148 v4 (ix2 r q)) ∧ ∀ w, (v4 (ix2 r (posOf q w)) : EReal) ≤ k1_pay148 v4 (ix2 r q) := by
    intro q
    rw [m_row]
    exact ⟨rowMax_mem _ (by decide), fun w => le_rowMax (fun w : Fin 128 => v4 (ix2 r (posOf q w))) w⟩
  obtain ⟨ch, hch, hc⟩ := roundsA ioA 128#32 (k1_pay148 v4) r (by decide)
    (fun w => by rw [ioA_at, BitVec.toNat_ofNat]; have := w.isLt; show _ % 4294967296 < 128; omega)
    (fun w w' e => by
      rw [ioA_at, ioA_at] at e
      have e := congrArg BitVec.toNat e
      rw [BitVec.toNat_ofNat, BitVec.toNat_ofNat] at e
      exact Fin.ext (by have := w.isLt; have := w'.isLt; omega))
    (fun w => by obtain ⟨⟨w', h⟩, -⟩ := hM w; rw [← h]; exact hfin _)
  have hch' : IsSel (fun q : Fin 128 => (k1_pay148 v4 (ix2 r q) : EReal)) (fun q => (q : ℕ)) 10 ch := by
    have e : (fun w : Fin 128 => (ioA (ix2 r w)).toNat) = fun w => w.val := by
      funext w; rw [ioA_at, BitVec.toNat_ofNat]; have := w.isLt; omega
    rwa [e] at hch
  have hcid : ∀ k : Fin 10, cidAt (k1_pay148 v4) k.val (ix2 r 0) = BitVec.ofNat 32 (ch k.val).val := fun k => by
    rw [← ioA_at r]; exact (hc k.val k.isLt).1
  -- the candidates
  have hcand : ∀ p : Fin 1280, candOf x (ix2 r p) = v4 (ix2 r (posOf (ch (slabPos p).1.val) (slabPos p).2)) := by
    intro p
    rw [cand_at]
    refine (hx (slabPos p).1 (slabPos p).2 (ch (slabPos p).1.val) ?_).trans ?_
    swap
    · exact congrArg (fun j => v4 (ix2 r j)) (Fin.ext (congrArg (· + _) (Nat.mul_comm _ _)))
    · rw [gix_at, hcid]
      refine BitVec.eq_of_toNat_eq ?_
      have := (ch (slabPos p).1.val).isLt; have := t.isLt; have := r.isLt
      simp only [BitVec.toNat_add, BitVec.toNat_mul, BitVec.toNat_ofNat]
      omega
  have hg : ∀ p : Fin 1280, gcolOf (cidOut (k1_pay148 v4)) (ix2 r p) = BitVec.ofNat 32 (posOf (ch (slabPos p).1.val) (slabPos p).2).val := by
    intro p
    rw [gcol_at, cid_at, hcid ⟨p.val / 128, by omega⟩]
    refine BitVec.eq_of_toNat_eq ?_
    have := (ch (p.val / 128)).isLt
    show _ = (BitVec.ofNat 32 ((ch (p.val / 128)).val * 128 + p.val % 128)).toNat
    simp only [BitVec.toNat_add, BitVec.toNat_mul, BitVec.toNat_ofNat]
    omega
  have hgn : ∀ p : Fin 1280, (gcolOf (cidOut (k1_pay148 v4)) (ix2 r p)).toNat = (posOf (ch (slabPos p).1.val) (slabPos p).2).val := by
    intro p
    rw [hg, BitVec.toNat_ofNat]
    have := (posOf (ch (slabPos p).1.val) (slabPos p).2).isLt
    omega
  have hposinj : ∀ {q w q' w' : Fin 128}, posOf q w = posOf q' w' → q = q' ∧ w = w' := by
    intro q w q' w' e
    have e : q.val * 128 + w.val = q'.val * 128 + w'.val := congrArg Fin.val e
    exact ⟨Fin.ext (by omega), Fin.ext (by omega)⟩
  obtain ⟨τ, hτ, hv⟩ := roundsB (gcolOf (cidOut (k1_pay148 v4))) 16384#32 (candOf x) r (by decide)
    (fun p => by rw [hgn]; exact (posOf _ _).isLt)
    (fun p p' e => by
      have e := congrArg BitVec.toNat e
      rw [hgn, hgn] at e
      obtain ⟨e1, e2⟩ := hposinj (Fin.ext e)
      have e1 := hch'.inj (slabPos p).1.isLt (slabPos p').1.isLt e1
      exact slabPos.injective (Prod.ext (Fin.ext e1) e2))
    (fun p => by rw [hcand]; exact hfin _)
  have hτ' : IsSel (fun q : Fin 10 × Fin 128 => (v4 (ix2 r (posOf (ch q.1.val) q.2)) : EReal)) (fun q => (posOf (ch q.1.val) q.2 : ℕ)) 10 (fun t => slabPos (τ t)) := by
    have h := IsSel.comp hτ slabPos
    simp only [hcand, hgn, Equiv.apply_symm_apply] at h
    exact h
  refine ⟨_, isSel_two_level (W := 128) (fun j : Fin 16384 => (v4 (ix2 r j) : EReal)) posOf (fun _ _ => rfl)
    (fun p => ⟨⟨p.val / 128, by omega⟩, ⟨p.val % 128, by omega⟩, Fin.ext (by show p.val / 128 * 128 + p.val % 128 = p.val; omega)⟩) _ hM hch' hτ', fun k => ?_⟩
  rw [vals_at, ixs_at, (hv k.val k.isLt).1, (hv k.val k.isLt).2, hcand, hg]
  exact ⟨rfl, rfl⟩

end Cert.Proof.KI

end
-- ==== Proof.KI.TableVals.lean ====
/-
  The slabs of the table that the similarity body stores, read back as one array.
-/
module

public import proofs.«01_k».proof.Proof.KI.BodyVals

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Slab `n`'s rectangle lies in the table block. -/
theorem slab_inb (n : ℕ) (h : n < 128) : ∀ a, (![n, 0, 0] : Fin 3 → ℕ) a + S1x128x128.size a ≤ S128x128x128.size a := by
  intro a; fin_cases a
  · show n + 1 ≤ 128; omega
  · show 0 + 128 ≤ 128; omega
  · show 0 + 128 ≤ 128; omega

/-- Slab `n`'s columns lie in the similarities. -/
theorem slab_slices (n : ℕ) (h : n < 128) : S128x16384.Slices ![0, 128 * n] S128x128 := by
  refine ⟨rfl, fun a => ?_⟩
  fin_cases a
  · show 0 + 128 ≤ 128; omega
  · show 128 * n + 128 ≤ 16384; omega

/-- The store of slab `n`: columns `128 n …` of the similarities. -/
def pc (v4 : FVec F S128x16384 .f32) (n : ℕ) (h : n < 128) : View.Piece (Elt F) S128x128x128 .f32 :=
  ⟨Rect.unit ![n, 0, 0] S1x128x128.size (slab_inb n h),
    shapeCast S1x128x128 (extractStridedSlice S128x128 ![0, 128 * n] v4 (slab_slices n h)) shapeCasts_S128x128_S1x128x128⟩

/-- The stores of the first `n` slabs, the last first. -/
def pcs (v4 : FVec F S128x16384 .f32) : (n : ℕ) → n ≤ 128 → List (View.Piece (Elt F) S128x128x128 .f32)
  | 0, _ => []
  | n + 1, h => pc v4 n h :: pcs v4 n (Nat.le_of_succ_le h)

/-- The table block as one array. -/
def tabOf (v4 : FVec F S128x16384 .f32) : FVec F S128x128x128 .f32 :=
  fun i => v4 (ix2 (i 1) ⟨128 * (i 0).val + (i 2).val, by have := (i 0).isLt; have := (i 2).isLt; change (i 0).val < 128 at *; change (i 2).val < 128 at *; omega⟩)

/-- Each of the table block's stores is the store of some chunk. -/
theorem pc_mem (v4 : FVec F S128x16384 .f32) : ∀ (n : ℕ) (h : n ≤ 128) (p), p ∈ pcs v4 n h → ∃ k, ∃ hk : k < 128, p = pc v4 k hk
  | 0, _, p, hp => absurd hp List.not_mem_nil
  | n + 1, h, p, hp => by
    rcases List.mem_cons.1 hp with e | hp
    · exact ⟨n, h, e⟩
    · exact pc_mem v4 n _ p hp

/-- Every chunk is stored. -/
theorem mem_pc (v4 : FVec F S128x16384 .f32) : ∀ (n : ℕ) (h : n ≤ 128) (k : ℕ) (hk : k < n), pc v4 k (by omega) ∈ pcs v4 n h
  | 0, _, k, hk => absurd hk (by omega)
  | n + 1, h, k, hk => by
    rcases Nat.lt_succ_iff_lt_or_eq.1 hk with hk | rfl
    · exact List.mem_cons_of_mem _ (mem_pc v4 n _ k hk)
    · exact List.mem_cons_self

/-- What the store of chunk `k` writes is that chunk of the table block. -/
theorem pc_val (v4 : FVec F S128x16384 .f32) (k : ℕ) (hk : k < 128) (x : (pc v4 k hk).1.shape.Idx) :
    (pc v4 k hk).2 x = tabOf v4 ((pc v4 k hk).1.emb x) := by
  have hx : ∀ a, (((pc v4 k hk).1.emb x) a : ℕ) = (![k, 0, 0] : Fin 3 → ℕ) a + x a := fun a => Rect.idx_unit_val (s := S128x128x128) ![k, 0, 0] S1x128x128.size (slab_inb k hk) x a
  change S1x128x128.Idx at x
  obtain ⟨z, r, w, rfl⟩ : ∃ (z : Fin 1) (r w : Fin 128), x = ix3 z r w := ⟨x 0, x 1, x 2, by funext a; fin_cases a <;> rfl⟩
  have h0 := hx 0
  have h1 := hx 1
  have h2 := hx 2
  change _ = k + z.val at h0
  change _ = 0 + r.val at h1
  change _ = 0 + w.val at h2
  show shapeCast S1x128x128 (extractStridedSlice S128x128 ![0, 128 * k] v4 (slab_slices k hk)) shapeCasts_S128x128_S1x128x128 (ix3 z r w) = _
  have e : Shape.reshapeEquiv shapeCasts_S128x128_S1x128x128 (ix3 z r w) = ix2 r w :=
    Shape.reshapeEquiv_eq_of_rowMajor _ (by
      rw [Shape.rowMajor_val_three, Shape.rowMajor_val_two]
      show r.val * 128 + w.val = ((z : ℕ) * 128 + r.val) * 128 + w.val
      omega)
  show extractStridedSlice S128x128 ![0, 128 * k] v4 (slab_slices k hk) (Shape.reshapeEquiv shapeCasts_S128x128_S1x128x128 (ix3 z r w)) = _
  rw [e]
  unfold tabOf
  refine congrArg v4 (funext fun a => Fin.ext ?_)
  fin_cases a
  · show 0 + r.val = _
    exact h1.symm
  · show 128 * k + w.val = 128 * _ + _
    rw [h0, h2]; omega

/-- After all the stores the block reads as the table block. -/
theorem pcs_read {sp : Space} (M : View sig .tc sp S128x128x128 .f32) (f : M.ty.Contents (Elt F)) (v4 : FVec F S128x16384 .f32) :
    M.read (Elt F) (M.writes (Elt F) f (pcs v4 128 (le_refl _))) = tabOf v4 := by
  funext y
  refine View.read_writes_apply_of_pieces M f (tabOf v4) _ ?_ y ?_
  · intro p hp x
    obtain ⟨k, hk, rfl⟩ := pc_mem v4 _ _ p hp
    exact pc_val v4 k hk x
  · have hy : (y 0).val < 128 := (y 0).isLt
    refine ⟨_, mem_pc v4 128 (le_refl _) (y 0).val hy, ?_⟩
    refine (Rect.mem_set_unit (s := S128x128x128) (off := ![(y 0).val, 0, 0]) (size := S1x128x128.size) (inb := slab_inb _ hy) (i := y)).2 ?_
    intro a
    have ha := (y a).isLt
    fin_cases a
    · show (y 0).val ≤ (y 0).val ∧ (y 0).val < (y 0).val + 1; omega
    · exact ⟨Nat.zero_le _, by change (y 1).val < 0 + 128; change (y 1).val < 128 at ha; omega⟩
    · exact ⟨Nat.zero_le _, by change (y 2).val < 0 + 128; change (y 2).val < 128 at ha; omega⟩

/-- The similarity body's table block. -/
theorem sim_val3 (c : Dev nD) (i : grid1.Coords) (M1 : Memref sig .tc .vmem S128x64 .f32) (h1 : M1.IsWhole) (M2 : Memref sig .tc .vmem S16384x64 .f32) (h2 : M2.IsWhole)
    (M3 : Memref sig .tc .vmem S128x128x128 .f32) (h3 : M3.IsWhole) (M4 : Memref sig .tc .vmem S128x10 .i32) (h4 : M4.IsWhole) (M5 : Memref sig .tc .vmem S128x10 .i32) (h5 : M5.IsWhole)
    (f1 : Bf (F := F) c M1) (f2 : Bf (F := F) c M2) :
    M3.view.read (Elt F) (simRun (F := F) c i M1 h1 M2 h2 M3 h3 M4 h4 M5 h5 f1 f2).1.1
      = tabOf (k1_pay2 (M1.view.read (Elt F) f1) (M2.view.read (Elt F) f2)) := by
  show M3.view.read (Elt F) (M3.view.writes (Elt F) M3.view.junk (simRun.sl.H3_128 c M1 M2 f1 f2)) = _
  have e : simRun.sl.H3_128 c M1 M2 f1 f2 = pcs (simRun.sl.r c M1 M2 f1 f2) 128 (le_refl _) := rfl
  rw [e, pcs_read, ← sim_r]

end Cert.Proof.KI

end
-- ==== Proof.KI.RegVals.lean ====
/-
  The arrays that the three TensorCore kernels leave, entry by entry.
-/
module

public import proofs.«01_k».proof.Proof.KI.TableVals
public import proofs.«01_k».proof.Proof.KI.TopVals
public import proofs.«01_k».proof.Proof.KI.Vals
public import Idealize.ShloMosaic.Lib.Pipeline.ValueKit
public import Idealize.ShloMosaic.Lib.Pipeline.Covers

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The similarity call's grid coordinate is the point's number. -/
theorem crd1 : ∀ t : Fin cfg1.N, (grid1.coords t 0 : ℕ) = t.val := by decide +kernel
/-- The normalising call's operand is one block. -/
theorem ix0_0 : ∀ t : Fin cfg0.N, ∀ a, win0_0.index t a = 0 := by decide +kernel
/-- The normalising call's result is one block. -/
theorem ix0_1 : ∀ t : Fin cfg0.N, ∀ a, win0_1.index t a = 0 := by decide +kernel
/-- The similarity call's first operand goes by blocks of rows. -/
theorem ix1_0 : ∀ t : Fin cfg1.N, win1_0.index t 0 = t.val ∧ win1_0.index t 1 = 0 := by decide +kernel
/-- The similarity call's second operand is one block. -/
theorem ix1_1 : ∀ t : Fin cfg1.N, ∀ a, win1_1.index t a = 0 := by decide +kernel
/-- The similarity call's table goes by blocks of rows. -/
theorem ix1_2 : ∀ t : Fin cfg1.N, win1_2.index t 0 = 0 ∧ win1_2.index t 1 = t.val ∧ win1_2.index t 2 = 0 := by decide +kernel
/-- The similarity call's chunk numbers go by blocks of rows. -/
theorem ix1_3 : ∀ t : Fin cfg1.N, win1_3.index t 0 = t.val ∧ win1_3.index t 1 = 0 := by decide +kernel
/-- The similarity call's gather rows go by blocks of rows. -/
theorem ix1_4 : ∀ t : Fin cfg1.N, win1_4.index t 0 = t.val ∧ win1_4.index t 1 = 0 := by decide +kernel
/-- The selecting call's slabs go by blocks of rows. -/
theorem ix3_0 : ∀ t : Fin cfg3.N, win3_0.index t 0 = 0 ∧ win3_0.index t 1 = t.val ∧ win3_0.index t 2 = 0 := by decide +kernel
/-- The selecting call's chunk numbers go by blocks of rows. -/
theorem ix3_1 : ∀ t : Fin cfg3.N, win3_1.index t 0 = t.val ∧ win3_1.index t 1 = 0 := by decide +kernel
/-- The selecting call's values go by blocks of rows. -/
theorem ix3_2 : ∀ t : Fin cfg3.N, win3_2.index t 0 = t.val ∧ win3_2.index t 1 = 0 := by decide +kernel
/-- The selecting call's columns go by blocks of rows. -/
theorem ix3_3 : ∀ t : Fin cfg3.N, win3_3.index t 0 = t.val ∧ win3_3.index t 1 = 0 := by decide +kernel
/-- The selecting call's weights go by blocks of rows. -/
theorem ix3_4 : ∀ t : Fin cfg3.N, win3_4.index t 0 = t.val ∧ win3_4.index t 1 = 0 := by decide +kernel

/-- Block `b`'s 128 rows. -/
def rowsOf {n : ℕ} {α : Type} (x : (⟨2, ![16384, n]⟩ : Shape).Idx → α) (b : Fin 128) : (⟨2, ![128, n]⟩ : Shape).Idx → α :=
  fun i => x (ix2 ⟨128 * b.val + (i 0).val, by have := (i 0).isLt; change (i 0).val < 128 at this; omega⟩ (i 1))

/-- Block `b`'s 128 rows of each of ten arrays. -/
def slabsOf {α : Type} (x : S10x16384x128.Idx → α) (b : Fin 128) : S10x128x128.Idx → α :=
  fun i => x (ix3 (i 0) ⟨128 * b.val + (i 1).val, by have := (i 1).isLt; change (i 1).val < 128 at this; omega⟩ (i 2))

/-- Row `R`'s block and its place there. -/
def blkOf (R : Fin 16384) : Fin 128 := ⟨R.val / 128, by omega⟩
def rowIn (R : Fin 16384) : Fin 128 := ⟨R.val % 128, by omega⟩

/-- Row `128 t + r` is row `r` of block `t`. -/
theorem blk_row (t : Fin 128) (r : Fin 128) (R : Fin 16384) (h : R.val = t.val * 128 + r.val) : blkOf R = t ∧ rowIn R = r :=
  ⟨Fin.ext (by show R.val / 128 = t.val; omega), Fin.ext (by show R.val % 128 = r.val; omega)⟩

/-- A two-dimensional output put together from its blocks of 128 rows. -/
def glue {n : ℕ} {α : Type} (f : Fin 128 → (⟨2, ![128, n]⟩ : Shape).Idx → α) : (⟨2, ![16384, n]⟩ : Shape).Idx → α :=
  fun i => f (blkOf (i 0)) (ix2 (rowIn (i 0)) (i 1))

/-- An array put together from blocks, read at a row of block `t`. -/
theorem glue_at {n : ℕ} {α : Type} (f : Fin 128 → (⟨2, ![128, n]⟩ : Shape).Idx → α) (t : Fin 128) (y : (⟨2, ![128, n]⟩ : Shape).Idx) (i : (⟨2, ![16384, n]⟩ : Shape).Idx)
    (h0 : (i 0 : ℕ) = t.val * 128 + (y 0 : ℕ)) (h1 : (i 1 : ℕ) = (y 1 : ℕ)) : f t y = glue f i := by
  unfold glue
  obtain ⟨e0, e1⟩ := blk_row t (y 0) (i 0) h0
  rw [e0, e1]
  refine congrArg (f t) (funext fun a => Fin.ext ?_)
  fin_cases a
  · rfl
  · exact h1.symm

/-- The table put together from its blocks of 128 rows. -/
def glueT {α : Type} (f : Fin 128 → S128x128x128.Idx → α) : S128x16384x128.Idx → α :=
  fun i => f (blkOf (i 1)) (ix3 (i 0) (rowIn (i 1)) (i 2))

/-- The table put together from blocks, read at a row of block `t`. -/
theorem glueT_at {α : Type} (f : Fin 128 → S128x128x128.Idx → α) (t : Fin 128) (y : S128x128x128.Idx) (i : S128x16384x128.Idx)
    (h0 : (i 0 : ℕ) = (y 0 : ℕ)) (h1 : (i 1 : ℕ) = t.val * 128 + (y 1 : ℕ)) (h2 : (i 2 : ℕ) = (y 2 : ℕ)) : f t y = glueT f i := by
  unfold glueT
  obtain ⟨e0, e1⟩ := blk_row t (y 1) (i 1) h1
  rw [e0, e1]
  refine congrArg (f t) (funext fun a => Fin.ext ?_)
  fin_cases a
  · exact h0.symm
  · rfl
  · exact h2.symm

/-- A grid point's number. -/
def b1 (t : Fin cfg1.N) : Fin 128 := ⟨t.val, t.isLt⟩
def b3 (t : Fin cfg3.N) : Fin 128 := ⟨t.val, t.isLt⟩

variable (W : (c : Dev nD) → Valuation τ sig (Elt F))

/-- The normalised rows. -/
theorem arr0 (c : Dev nD) : (dat0 W c).arrAt 1 cfg0.N = k0_pay1 (W c (Proc.devRef .tc main_arg0) : S16384x64.Idx → Elt F .f32) := by
  refine (dat0 W c).arrAt_eq_of_covers 1 _ (by decide +kernel) fun t hf y => ?_
  have h : stg0 W c t = (W c (Proc.devRef .tc main_arg0) : S16384x64.Idx → Elt F .f32) := by
    funext z
    show W c (Proc.devRef .tc main_arg0) (((cfg0.win 0).blk t).view.emb z) = _
    refine congrArg _ (funext fun a => Fin.ext ?_)
    blk_simp
    rw [ix0_0, Nat.zero_mul, Nat.zero_add]
  have e : (dat0 W c).after 1 t = k0_pay1 (stg0 W c t) := by
    rw [← after0_1, norm_val, (stage_whole0 0 _).read_unread]
  rw [e, h]
  blk_simp
  refine congrArg _ (funext fun a => Fin.ext ?_)
  blk_simp
  rw [ix0_1, Nat.zero_mul, Nat.zero_add]

/-- What the similarity body finds of its first operand: block `t` of the rows. -/
theorem stg1_0_eq (c : Dev nD) (t : Fin cfg1.N) : stg1_0 W c t = rowsOf (W c (Proc.devRef .tc main_v0) : S16384x64.Idx → Elt F .f32) (b1 t) := by
  funext z
  show W c (Proc.devRef .tc main_v0) (((cfg1.win 0).blk t).view.emb z) = W c (Proc.devRef .tc main_v0) _
  refine congrArg (W c (Proc.devRef .tc main_v0)) (funext fun a => Fin.ext ?_)
  fin_cases a
  · blk_simp
    rw [(ix1_0 t).1]
    exact congrArg (· + _) (Nat.mul_comm _ _)
  · blk_simp
    rw [(ix1_0 t).2]
    exact Nat.zero_add _

/-- What the similarity body finds of its second operand: all the rows. -/
theorem stg1_1_eq (c : Dev nD) (t : Fin cfg1.N) : stg1_1 W c t = (W c (Proc.devRef .tc main_v0) : S16384x64.Idx → Elt F .f32) := by
  funext z
  show W c (Proc.devRef .tc main_v0) (((cfg1.win 1).blk t).view.emb z) = W c (Proc.devRef .tc main_v0) _
  refine congrArg (W c (Proc.devRef .tc main_v0)) (funext fun a => Fin.ext ?_)
  blk_simp
  rw [ix1_1, Nat.zero_mul, Nat.zero_add]

/-- What the selecting body finds of the chunk numbers: block `t` of them. -/
theorem stg3_1_eq (c : Dev nD) (t : Fin cfg3.N) : stg3_1 W c t = rowsOf (W c (Proc.devRef .tc main_v1_1) : S16384x10.Idx → Elt F .i32) (b3 t) := by
  funext z
  show W c (Proc.devRef .tc main_v1_1) (((cfg3.win 1).blk t).view.emb z) = W c (Proc.devRef .tc main_v1_1) _
  refine congrArg (W c (Proc.devRef .tc main_v1_1)) (funext fun a => Fin.ext ?_)
  fin_cases a
  · blk_simp
    rw [(ix3_1 t).1]
    exact congrArg (· + _) (Nat.mul_comm _ _)
  · blk_simp
    rw [(ix3_1 t).2]
    exact Nat.zero_add _

/-- What the selecting body finds of the gathered rows: block `t` of each slab. -/
theorem stg3_0_eq (c : Dev nD) (t : Fin cfg3.N) : stg3_0 W c t = slabsOf (W c (Proc.devRef .tc main_v9) : S10x16384x128.Idx → Elt F .f32) (b3 t) := by
  funext z
  show W c (Proc.devRef .tc main_v9) (((cfg3.win 0).blk t).view.emb z) = W c (Proc.devRef .tc main_v9) _
  refine congrArg (W c (Proc.devRef .tc main_v9)) (funext fun a => Fin.ext ?_)
  fin_cases a
  · blk_simp
    rw [(ix3_0 t).1]
    exact Nat.zero_add _
  · blk_simp
    rw [(ix3_0 t).2.1]
    exact congrArg (· + _) (Nat.mul_comm _ _)
  · blk_simp
    rw [(ix3_0 t).2.2]
    exact Nat.zero_add _

/-- The similarities of block `t`'s rows with every row. -/
def simsOf (xn : S16384x64.Idx → Elt F .f32) (t : Fin 128) : FVec F S128x16384 .f32 := k1_pay2 (rowsOf xn t) xn

/-- The table. -/
theorem arr1_2 (c : Dev nD) : (dat1 W c).arrAt 2 cfg1.N = glueT fun t : Fin 128 => tabOf (simsOf (W c (Proc.devRef .tc main_v0) : S16384x64.Idx → Elt F .f32) t) := by
  refine (dat1 W c).arrAt_eq_of_covers 2 _ (by decide +kernel) fun t hf y => ?_
  have e : (dat1 W c).after 2 t = tabOf (simsOf (W c (Proc.devRef .tc main_v0) : S16384x64.Idx → Elt F .f32) (b1 t)) := by
    show (st1_2 t).view.read (Elt F) _ = _
    refine (sim_val3 c _ _ _ _ _ _ _ _ _ _ _ _ _).trans ?_
    rw [(stage_whole1 0 _).read_unread, (stage_whole1 1 _).read_unread, stg1_0_eq, stg1_1_eq]
    rfl
  rw [e]
  blk_simp
  refine glueT_at (fun t : Fin 128 => tabOf (simsOf (W c (Proc.devRef .tc main_v0) : S16384x64.Idx → Elt F .f32) t)) (b1 t) y _ ?_ ?_ ?_
  · blk_simp
    rw [(ix1_2 t).1]; exact Nat.zero_add _
  · blk_simp
    rw [(ix1_2 t).2.1]; rfl
  · blk_simp
    rw [(ix1_2 t).2.2]; exact Nat.zero_add _

/-- The chunk numbers. -/
theorem arr1_3 (c : Dev nD) : (dat1 W c).arrAt 3 cfg1.N = glue fun t : Fin 128 => cidOut (k1_pay148 (simsOf (W c (Proc.devRef .tc main_v0) : S16384x64.Idx → Elt F .f32) t)) := by
  refine (dat1 W c).arrAt_eq_of_covers 3 _ (by decide +kernel) fun t hf y => ?_
  have e : (dat1 W c).after 3 t = cidOut (k1_pay148 (simsOf (W c (Proc.devRef .tc main_v0) : S16384x64.Idx → Elt F .f32) (b1 t))) := by
    show (st1_3 t).view.read (Elt F) _ = _
    refine (sim_val4 c _ _ _ _ _ _ _ _ _ _ _ _ _).trans ?_
    rw [(stage_whole1 0 _).read_unread, (stage_whole1 1 _).read_unread, stg1_0_eq, stg1_1_eq]
    rfl
  rw [e]
  blk_simp
  refine glue_at (fun t : Fin 128 => cidOut (k1_pay148 (simsOf (W c (Proc.devRef .tc main_v0) : S16384x64.Idx → Elt F .f32) t))) (b1 t) y _ ?_ ?_
  · blk_simp
    rw [(ix1_3 t).1]; rfl
  · blk_simp
    rw [(ix1_3 t).2]; exact Nat.zero_add _

/-- The table rows. -/
theorem arr1_4 (c : Dev nD) : (dat1 W c).arrAt 4 cfg1.N = glue fun t : Fin 128 => gixOut (BitVec.ofNat 32 t.val) (k1_pay148 (simsOf (W c (Proc.devRef .tc main_v0) : S16384x64.Idx → Elt F .f32) t)) := by
  refine (dat1 W c).arrAt_eq_of_covers 4 _ (by decide +kernel) fun t hf y => ?_
  have e : (dat1 W c).after 4 t = gixOut (BitVec.ofNat 32 (b1 t).val) (k1_pay148 (simsOf (W c (Proc.devRef .tc main_v0) : S16384x64.Idx → Elt F .f32) (b1 t))) := by
    show (st1_4 t).view.read (Elt F) _ = _
    refine (sim_val5 c _ _ _ _ _ _ _ _ _ _ _ _ _).trans ?_
    rw [(stage_whole1 0 _).read_unread, (stage_whole1 1 _).read_unread, stg1_0_eq, stg1_1_eq, crd1]
    rfl
  rw [e]
  blk_simp
  refine glue_at (fun t : Fin 128 => gixOut (BitVec.ofNat 32 t.val) (k1_pay148 (simsOf (W c (Proc.devRef .tc main_v0) : S16384x64.Idx → Elt F .f32) t))) (b1 t) y _ ?_ ?_
  · blk_simp
    rw [(ix1_4 t).1]; rfl
  · blk_simp
    rw [(ix1_4 t).2]; exact Nat.zero_add _

/-- The selected values. -/
theorem arr3_2 (c : Dev nD) : (dat3 W c).arrAt 2 cfg3.N = glue fun t : Fin 128 => topVals (gcolOf (rowsOf (W c (Proc.devRef .tc main_v1_1) : S16384x10.Idx → Elt F .i32) t)) (candOf (slabsOf (W c (Proc.devRef .tc main_v9) : S10x16384x128.Idx → Elt F .f32) t)) := by
  refine (dat3 W c).arrAt_eq_of_covers 2 _ (by decide +kernel) fun t hf y => ?_
  have e : (dat3 W c).after 2 t = topVals (gcolOf (rowsOf (W c (Proc.devRef .tc main_v1_1) : S16384x10.Idx → Elt F .i32) (b3 t))) (candOf (slabsOf (W c (Proc.devRef .tc main_v9) : S10x16384x128.Idx → Elt F .f32) (b3 t))) := by
    show (st3_2 t).view.read (Elt F) _ = _
    refine (topk_val3 c _ _ _ _ _ _ _ _ _ _ _ _ _).trans ?_
    rw [(stage_whole3 0 _).read_unread, (stage_whole3 1 _).read_unread, stg3_0_eq, stg3_1_eq]
  rw [e]
  blk_simp
  refine glue_at (fun t : Fin 128 => topVals (gcolOf (rowsOf (W c (Proc.devRef .tc main_v1_1) : S16384x10.Idx → Elt F .i32) t)) (candOf (slabsOf (W c (Proc.devRef .tc main_v9) : S10x16384x128.Idx → Elt F .f32) t))) (b3 t) y _ ?_ ?_
  · blk_simp
    rw [(ix3_2 t).1]; rfl
  · blk_simp
    rw [(ix3_2 t).2]; exact Nat.zero_add _

/-- The selected columns. -/
theorem arr3_3 (c : Dev nD) : (dat3 W c).arrAt 3 cfg3.N = glue fun t : Fin 128 => topIxs (gcolOf (rowsOf (W c (Proc.devRef .tc main_v1_1) : S16384x10.Idx → Elt F .i32) t)) (candOf (slabsOf (W c (Proc.devRef .tc main_v9) : S10x16384x128.Idx → Elt F .f32) t)) := by
  refine (dat3 W c).arrAt_eq_of_covers 3 _ (by decide +kernel) fun t hf y => ?_
  have e : (dat3 W c).after 3 t = topIxs (gcolOf (rowsOf (W c (Proc.devRef .tc main_v1_1) : S16384x10.Idx → Elt F .i32) (b3 t))) (candOf (slabsOf (W c (Proc.devRef .tc main_v9) : S10x16384x128.Idx → Elt F .f32) (b3 t))) := by
    show (st3_3 t).view.read (Elt F) _ = _
    refine (topk_val4 c _ _ _ _ _ _ _ _ _ _ _ _ _).trans ?_
    rw [(stage_whole3 0 _).read_unread, (stage_whole3 1 _).read_unread, stg3_0_eq, stg3_1_eq]
  rw [e]
  blk_simp
  refine glue_at (fun t : Fin 128 => topIxs (gcolOf (rowsOf (W c (Proc.devRef .tc main_v1_1) : S16384x10.Idx → Elt F .i32) t)) (candOf (slabsOf (W c (Proc.devRef .tc main_v9) : S10x16384x128.Idx → Elt F .f32) t))) (b3 t) y _ ?_ ?_
  · blk_simp
    rw [(ix3_3 t).1]; rfl
  · blk_simp
    rw [(ix3_3 t).2]; exact Nat.zero_add _

/-- The weights. -/
theorem arr3_4 (c : Dev nD) : (dat3 W c).arrAt 4 cfg3.N = glue fun t : Fin 128 => k3_pay36 (F := F) := by
  refine (dat3 W c).arrAt_eq_of_covers 4 _ (by decide +kernel) fun t hf y => ?_
  have e : (dat3 W c).after 4 t = k3_pay36 (F := F) := by
    show (st3_4 t).view.read (Elt F) _ = _
    refine (topk_val5 c _ _ _ _ _ _ _ _ _ _ _ _ _).trans ?_
    rfl
  rw [e]
  blk_simp
  refine glue_at (fun t : Fin 128 => k3_pay36 (F := F)) (b3 t) y _ ?_ ?_
  · blk_simp
    rw [(ix3_4 t).1]; rfl
  · blk_simp
    rw [(ix3_4 t).2]; exact Nat.zero_add _

end Cert.Proof.KI

end
-- ==== Proof.KI.Final.lean ====
/-
  The results that the program leaves, from its kernels' blocks.
-/
module

public import proofs.«01_k».proof.Proof.KI.RegVals
public import proofs.«01_k».proof.Proof.KI.Run

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A block of rows of an array put together from blocks is that block. -/
theorem rowsOf_glue {n : ℕ} {α : Type} (f : Fin 128 → (⟨2, ![128, n]⟩ : Shape).Idx → α) (t : Fin 128) : rowsOf (glue f) t = f t := by
  funext y
  exact (glue_at f t y _ (congrArg (· + _) (Nat.mul_comm _ _)) rfl).symm

/-- A number below the table's height is left by the clamp. -/
theorem clamp_id (n : ℕ) (h : n < 2097152) : (IntOp.minsi (IntOp.maxsi (BitVec.ofNat 32 n) 0#32) 2097151#32).toNat = n := by
  have e : (BitVec.ofNat 32 n).toNat = n := by rw [BitVec.toNat_ofNat]; omega
  have ei : (BitVec.ofNat 32 n).toInt = n := by rw [BitVec.toInt_eq_toNat_cond, e]; split <;> omega
  have h1 : IntOp.maxsi (BitVec.ofNat 32 n) 0#32 = BitVec.ofNat 32 n := by
    simp only [IntOp.maxsi, BitVec.sle_eq_decide, BitVec.slt_eq_decide, ei]
    split <;> simp_all <;> omega
  rw [h1]
  simp only [IntOp.minsi, BitVec.sle_eq_decide, BitVec.slt_eq_decide, ei]
  split <;> simp_all <;> omega

variable (m : (ℓ : Loc nD τ sig) → Buf (Elt F) ℓ)

/-- The normalised rows of the argument. -/
def xnOf (c : Dev nD) : FVec F S16384x64 .f32 := k0_pay1 (m ((c.tc : Thread nD τ).loc main_arg0) : S16384x64.Idx → Elt F .f32)

/-- The normalised rows, as the host holds them. -/
theorem V1_v0 (c : Dev nD) : (V1 m c (Proc.devRef .tc main_v0) : S16384x64.Idx → Elt F .f32) = xnOf m c := (V1_out m c).trans (arr0 (V0 m) c)

/-- The chunks' maxima of block `t`. -/
def mOf (c : Dev nD) (t : Fin 128) : FVec F S128x128 .f32 := k1_pay148 (simsOf (xnOf m c) t)

/-- The table of similarities, as the host holds it. -/
theorem V2_tab (c : Dev nD) : (V2 m c (Proc.devRef .tc main_v1_0) : S128x16384x128.Idx → Elt F .f32) = glueT fun t => tabOf (simsOf (xnOf m c) t) := by
  refine (V2_out0 m c).trans ((arr1_2 (V1 m) c).trans ?_)
  rw [V1_v0]
/-- The chosen chunks' numbers, as the host holds them. -/
theorem V2_cid (c : Dev nD) : (V2 m c (Proc.devRef .tc main_v1_1) : S16384x10.Idx → Elt F .i32) = glue fun t => cidOut (mOf m c t) := by
  refine (V2_out1 m c).trans ((arr1_3 (V1 m) c).trans ?_)
  rw [V1_v0]; rfl
/-- The rows of the table to gather, as the host holds them. -/
theorem V2_gix (c : Dev nD) : (V2 m c (Proc.devRef .tc main_v1_2) : S16384x10.Idx → Elt F .i32) = glue fun t => gixOut (BitVec.ofNat 32 t.val) (mOf m c t) := by
  refine (V2_out2 m c).trans ((arr1_4 (V1 m) c).trans ?_)
  rw [V1_v0]; rfl

/-- The gathered rows as ten slabs. -/
theorem V5_v9 (c : Dev nD) : (V5 m c (Proc.devRef .tc main_v9) : S10x16384x128.Idx → Elt F .f32)
    = shapeCast S10x16384x128 (gathered (tbv m c) (ixv m c)) shapeCasts_S163840x128_S10x16384x128 := by
  unfold V5 ops2
  after_results_simp
  rw [show V4 m c (Proc.devRef .tc main_v8) = gathered (tbv m c) (ixv m c) from setW_self _ _ _]
  rfl

/-- The chosen chunks' numbers are still there after the gather. -/
theorem V5_cid (c : Dev nD) : (V5 m c (Proc.devRef .tc main_v1_1) : S16384x10.Idx → Elt F .i32) = glue fun t => cidOut (mOf m c t) := by
  have h5 : V5 m c (Proc.devRef .tc main_v1_1) = V4 m c (Proc.devRef .tc main_v1_1) := by
    unfold V5 ops2; after_results_simp
  have h3 : V3 m c (Proc.devRef .tc main_v1_1) = V2 m c (Proc.devRef .tc main_v1_1) := by
    unfold V3 ops1; after_results_simp
  refine (h5.trans ((setW_ne _ main_v8 _ (by decide)).trans h3)).trans (V2_cid m c)

/-- The list's entry for gathered row `n = 16384 k + R`. -/
theorem list_at (X : S16384x10.Idx → BitVec 32) (k : Fin 10) (R : Fin 16384) (n : ℕ) (hn : n = k.val * 16384 + R.val) :
    shapeCast S1280x128 (transpose S10x16384 [1, 0]
      (minsi (maxsi X (broadcastInDim S16384x10 ![] bcast_S_S16384x10 (constantI S_ 32 0#32)))
        (broadcastInDim S16384x10 ![] bcast_S_S16384x10 (constantI S_ 32 2097151#32))) transposes_S16384x10_S10x16384_1_0) shapeCasts_S10x16384_S1280x128
      (ix2 (⟨n / 128 % 1280, Nat.mod_lt _ (by decide)⟩ : Fin 1280) (⟨n % 128, Nat.mod_lt _ (by decide)⟩ : Fin 128))
    = IntOp.minsi (IntOp.maxsi (X (ix2 R k)) 0#32) 2097151#32 := by
  have hk := k.isLt; have hR := R.isLt
  have e : Shape.reshapeEquiv shapeCasts_S10x16384_S1280x128 (ix2 (⟨n / 128 % 1280, Nat.mod_lt _ (by decide)⟩ : Fin 1280) (⟨n % 128, Nat.mod_lt _ (by decide)⟩ : Fin 128))
      = ix2 k R :=
    Shape.reshapeEquiv_eq_of_rowMajor _ (by
      rw [Shape.rowMajor_val_two, Shape.rowMajor_val_two]
      show k.val * 16384 + R.val = n / 128 % 1280 * 128 + n % 128
      omega)
  refine (congrArg (transpose S10x16384 [1, 0]
      (minsi (maxsi X (broadcastInDim S16384x10 ![] bcast_S_S16384x10 (constantI S_ 32 0#32)))
        (broadcastInDim S16384x10 ![] bcast_S_S16384x10 (constantI S_ 32 2097151#32))) transposes_S16384x10_S10x16384_1_0) e).trans ?_
  show IntOp.minsi (IntOp.maxsi (X _) 0#32) 2097151#32 = _
  refine congrArg (fun z => IntOp.minsi (IntOp.maxsi (X z) 0#32) 2097151#32) (funext fun a => ?_)
  fin_cases a <;> rfl

/-- The table's row `16384 q + R`. -/
theorem tab_at {α : Type} (T : S128x16384x128.Idx → α) (q : Fin 128) (R : Fin 16384) (w : Fin 128) (v : Fin 2097152) (hv : v.val = q.val * 16384 + R.val) :
    shapeCast S2097152x128 T shapeCasts_S128x16384x128_S2097152x128 (ix2 v w) = T (ix3 q R w) := by
  refine congrArg T (Shape.reshapeEquiv_eq_of_rowMajor _ ?_)
  rw [Shape.rowMajor_val_three, Shape.rowMajor_val_two]
  show (q.val * 16384 + R.val) * 128 + w.val = v.val * 128 + w.val
  rw [hv]

/-- The gathered array's row `16384 k + R`, by rank and row. -/
theorem slab_at {α : Type} (X : S163840x128.Idx → α) (k : Fin 10) (R : Fin 16384) (w : Fin 128) (v : Fin 163840) (hv : v.val = k.val * 16384 + R.val) :
    shapeCast S10x16384x128 X shapeCasts_S163840x128_S10x16384x128 (ix3 k R w) = X (ix2 v w) := by
  refine congrArg X (Shape.reshapeEquiv_eq_of_rowMajor _ ?_)
  rw [Shape.rowMajor_val_three, Shape.rowMajor_val_two]
  show v.val * 128 + w.val = (k.val * 16384 + R.val) * 128 + w.val
  rw [hv]

/-- A chunk, a block and a row in it name a row of the table. -/
theorem flat_lt (q t r : ℕ) (hq : q < 128) (ht : t < 128) (hr : r < 128) : q * 16384 + (t * 128 + r) < 2097152 := by omega

/-- The gathered slab: the similarities of the row with the chunk that the word names. -/
theorem v9_at (c : Dev nD) (t r : Fin 128) (k : Fin 10) (w q : Fin 128)
    (h : gixOut (BitVec.ofNat 32 t.val) (mOf m c t) (ix2 r k) = BitVec.ofNat 32 (q.val * 16384 + (t.val * 128 + r.val))) :
    slabsOf (V5 m c (Proc.devRef .tc main_v9) : S10x16384x128.Idx → Elt F .f32) t (ix3 k r w)
      = simsOf (xnOf m c) t (ix2 r ⟨128 * q.val + w.val, by omega⟩) := by
  have hk := k.isLt; have hr := r.isLt; have ht := t.isLt; have hw := w.isLt; have hq := q.isLt
  have hR : 128 * t.val + r.val < 16384 := by omega
  have hn : k.val * 16384 + (128 * t.val + r.val) < 163840 := by omega
  have hb : q.val * 16384 + (t.val * 128 + r.val) < 2097152 := flat_lt _ _ _ hq ht hr
  rw [V5_v9]
  refine (slab_at (gathered (tbv m c) (ixv m c)) k ⟨_, hR⟩ w ⟨_, hn⟩ rfl).trans ?_
  have e2 : (ixv m c (ix2 ⟨(k.val * 16384 + (128 * t.val + r.val)) / 128 % 1280, Nat.mod_lt _ (by decide)⟩ ⟨(k.val * 16384 + (128 * t.val + r.val)) % 128, Nat.mod_lt _ (by decide)⟩)).toNat
      = q.val * 16384 + (t.val * 128 + r.val) := by
    rw [V3_v7]
    refine (congrArg BitVec.toNat (list_at _ k ⟨_, hR⟩ (k.val * 16384 + (128 * t.val + r.val)) rfl)).trans ?_
    rw [V2_gix]
    refine Eq.trans (congrArg (fun x => (IntOp.minsi (IntOp.maxsi x 0#32) 2097151#32).toNat) ?_) (clamp_id (q.val * 16384 + (t.val * 128 + r.val)) hb)
    rw [← h]
    exact (glue_at (fun t : Fin 128 => gixOut (BitVec.ofNat 32 t.val) (mOf m c t)) t (ix2 r k) (ix2 (⟨_, hR⟩ : Fin 16384) k)
      (by show 128 * t.val + r.val = t.val * 128 + r.val; omega) rfl).symm
  show gath (tbv m c) (ixv m c) (k.val * 16384 + (128 * t.val + r.val)) w = _
  unfold gath
  rw [V3_v2]
  refine (tab_at _ q ⟨_, hR⟩ w _ ((congrArg (· % 2097152) e2).trans (by show (q.val * 16384 + (t.val * 128 + r.val)) % 2097152 = q.val * 16384 + (128 * t.val + r.val); omega))).trans ?_
  rw [V2_tab]
  exact (glueT_at (fun t : Fin 128 => tabOf (simsOf (xnOf m c) t)) t (ix3 q r w) (ix3 q (⟨_, hR⟩ : Fin 16384) w) rfl
    (by show 128 * t.val + r.val = t.val * 128 + r.val; omega) rfl).symm

/-- What the final selection is given at block `t`. -/
def candM (c : Dev nD) (t : Fin 128) : FVec F S128x1280 .f32 := candOf (slabsOf (V5 m c (Proc.devRef .tc main_v9) : S10x16384x128.Idx → Elt F .f32) t)
def gcolM (c : Dev nD) (t : Fin 128) : IVec S128x1280 32 := gcolOf (cidOut (mOf m c t))

/-- The program's first result: each block's ten greatest values. -/
theorem V7_vals (c : Dev nD) : (V7 m c (Proc.devRef .tc main_v10_0) : S16384x10.Idx → Elt F .f32) = glue fun t => topVals (gcolM m c t) (candM m c t) := by
  have h7 : V7 m c (Proc.devRef .tc main_v10_0) = V6 m c (Proc.devRef .tc main_v10_0) := by
    unfold V7 ops3; after_results_simp
  refine h7.trans ((V6_out0 m c).trans ((arr3_2 (V5 m) c).trans ?_))
  rw [V5_cid]
  refine congrArg glue (funext fun t => ?_)
  rw [rowsOf_glue]; rfl

/-- The selecting call's second result: each block's ten columns. -/
theorem V6_ixs (c : Dev nD) : (V6 m c (Proc.devRef .tc main_v10_1) : S16384x10.Idx → Elt F .i32) = glue fun t => topIxs (gcolM m c t) (candM m c t) := by
  refine (V6_out1 m c).trans ((arr3_3 (V5 m) c).trans ?_)
  rw [V5_cid]
  refine congrArg glue (funext fun t => ?_)
  rw [rowsOf_glue]; rfl

/-- The program's third result: the row numbers over the chosen columns. -/
theorem V7_ixs (c : Dev nD) : (V7 m c (Proc.devRef .tc main_v17) : S2x163840.Idx → Elt F .i32)
    = concatenate S2x163840 0 [⟨S1x163840, broadcastInDim S1x163840 ![1] bcast_S163840_S1x163840_1 (shapeCast S163840 (broadcastInDim S16384x10 ![0] bcast_S16384_S16384x10_0 (iotaInDim S16384 32 0)) shapeCasts_S16384x10_S163840)⟩,
        ⟨S1x163840, broadcastInDim S1x163840 ![1] bcast_S163840_S1x163840_1 (shapeCast S163840 (glue fun t => topIxs (gcolM m c t) (candM m c t)) shapeCasts_S16384x10_S163840)⟩]
      concatenates_S1x163840_S1x163840_S2x163840_d0 := by
  rw [← V6_ixs]
  unfold V7 ops3
  after_results_simp
  rfl

/-- The program's second result: the weights, in one row. -/
theorem V7_lap (c : Dev nD) : (V7 m c (Proc.devRef .tc main_v18) : S163840.Idx → Elt F .f32)
    = shapeCast S163840 (glue fun _ => k3_pay36 (F := F)) shapeCasts_S16384x10_S163840 := by
  rw [← arr3_4 (V5 m) c, ← V6_out2]
  unfold V7 ops3
  after_results_simp
  rfl

end Cert.Proof.KI

end
-- ==== Proof.Spec.lean ====
/-
  The problem's similarities on the extended reals: a row normalised, two rows' similarity, and that with no row zero every
  similarity lies above −∞.
-/
module

public import Idealize.ShloMosaic.Lib.Pointwise
public import proofs.«01_k».proof.Proof.Gen.KernelIdeal

@[expose] public section
noncomputable section
open Idealize.ShloMosaic

namespace Cert.Proof

/-- Row `p` normalised: its entry `k` over the square root of the row's sum of squares. -/
def nrm (a : (⟨2, ![16384, 64]⟩ : Shape).Idx → EReal) (p : Fin 16384) (k : Fin 64) : EReal :=
  Ideal.div (a (ix2 p k)) (Ideal.sqrt (∑ l : Fin 64, a (ix2 p l) * a (ix2 p l)))

/-- The similarity of two rows. -/
def cosim (a : (⟨2, ![16384, 64]⟩ : Shape).Idx → EReal) (p j : Fin 16384) : EReal := ∑ l : Fin 64, nrm a p l * nrm a j l

/-- A square is not negative. -/
theorem sq_nonneg_ereal (x : EReal) : 0 ≤ x * x := by
  induction x with
  | bot => simp
  | top => simp
  | coe x => exact_mod_cast mul_self_nonneg x

/-- A row that is not zero has real entries when normalised. -/
theorem nrm_fin (a : (⟨2, ![16384, 64]⟩ : Shape).Idx → EReal) (p : Fin 16384) (h : ∃ l : Fin 64, a (ix2 p l) ≠ 0) (k : Fin 64) : ∃ x : ℝ, nrm a p k = (x : EReal) := by
  obtain ⟨l, hl⟩ := h
  have hle : ∀ q : Fin 64, a (ix2 p q) * a (ix2 p q) ≤ ∑ l : Fin 64, a (ix2 p l) * a (ix2 p l) :=
    fun q => Finset.single_le_sum (f := fun l : Fin 64 => a (ix2 p l) * a (ix2 p l)) (fun i _ => sq_nonneg_ereal _) (Finset.mem_univ q)
  unfold nrm
  generalize (∑ l : Fin 64, a (ix2 p l) * a (ix2 p l)) = S at hle
  have hpos : 0 < S := by
    refine lt_of_lt_of_le ?_ (hle l)
    refine lt_of_le_of_ne (sq_nonneg_ereal _) fun e => ?_
    exact hl (by simpa using e.symm)
  have hk := hle k
  generalize a (ix2 p k) = x at hk
  induction S with
  | bot => exact absurd hpos (by simp)
  | top =>
    have : Ideal.sqrt (⊤ : EReal) = ⊤ := rfl
    rw [this]
    refine ⟨0, ?_⟩
    unfold Ideal.div
    rw [if_neg (by simp)]
    simp
  | coe S =>
    have hS : 0 < S := by exact_mod_cast hpos
    have e : Ideal.sqrt (S : EReal) = ((Real.sqrt S : ℝ) : EReal) := by
      show (if S < 0 then ⊥ else ((Real.sqrt S : ℝ) : EReal)) = _
      rw [if_neg (by linarith)]
    rw [e]
    have hne : Real.sqrt S ≠ 0 := (Real.sqrt_pos.mpr hS).ne'
    unfold Ideal.div
    rw [if_neg (by exact_mod_cast hne)]
    induction x with
    | bot => exact absurd hk (by simp)
    | top => exact absurd hk (by simp)
    | coe x => exact ⟨x * (Real.sqrt S)⁻¹, by push_cast; rfl⟩

/-- With no row zero every similarity lies above −∞. -/
theorem cosim_fin (a : (⟨2, ![16384, 64]⟩ : Shape).Idx → EReal) (h : ∀ p : Fin 16384, ∃ l : Fin 64, a (ix2 p l) ≠ 0) (p j : Fin 16384) : ⊥ < cosim a p j := by
  unfold cosim
  refine Finset.sum_induction _ (fun x : EReal => ⊥ < x) (fun a b ha hb => ?_) (by simp) fun l _ => ?_
  · exact EReal.bot_lt_add_iff.mpr ⟨ha, hb⟩
  · obtain ⟨x, hx⟩ := nrm_fin a p (h p) l
    obtain ⟨y, hy⟩ := nrm_fin a j (h j) l
    rw [hx, hy, ← EReal.coe_mul]
    exact EReal.bot_lt_coe _

end Cert.Proof

end
-- ==== Proof.KI.Result.lean ====
/-
  What the program's three results are on the extended reals, in the problem's own words.
-/
module

public import proofs.«01_k».proof.Proof.KI.Rows
public import proofs.«01_k».proof.Proof.KI.Final
public import proofs.«01_k».proof.Proof.Spec

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The kernel's normalised row at an entry. -/
theorem xn_at (a : FVec Ideal S16384x64 .f32) (p : Fin 16384) (k : Fin 64) :
    k0_pay1 (F := Ideal) a (ix2 p k) = nrm a p k := by
  unfold k0_pay1 nrm
  pointwise

/-- A block's similarities are the problem's. -/
theorem sims_at (a : FVec Ideal S16384x64 .f32) (t r : Fin 128) (j : Fin 16384) :
    simsOf (F := Ideal) (k0_pay1 (F := Ideal) a) t (ix2 r j) = cosim a ⟨128 * t.val + r.val, by omega⟩ j := by
  have e : simsOf (F := Ideal) (k0_pay1 (F := Ideal) a) t (ix2 r j) = ∑ l : Fin 64, k0_pay1 (F := Ideal) a (ix2 ⟨128 * t.val + r.val, by omega⟩ l) * k0_pay1 (F := Ideal) a (ix2 j l) := by
    generalize k0_pay1 (F := Ideal) a = x
    unfold simsOf k1_pay2
    pointwise
    rfl
  rw [e]
  exact Finset.sum_congr rfl fun l _ => by rw [xn_at, xn_at]

variable (m : (ℓ : Loc nD τ sig) → Buf (Elt Ideal) ℓ)

/-- The argument on device `c`. -/
abbrev argOf (c : Dev nD) : (⟨2, ![16384, 64]⟩ : Shape).Idx → EReal := m ((c.tc : Thread nD τ).loc main_arg0)

/-- The first and the second result's rows: with no row of the argument zero, row `p`'s ten columns are the ten greatest
    similarities of row `p`, of equal ones the lowest column first. -/
theorem rows_sel (c : Dev nD) (hz : ∀ p : Fin 16384, ∃ l : Fin 64, argOf m c (ix2 p l) ≠ 0) :
    ∃ π : Fin 16384 → ℕ → Fin 16384, (∀ p, IsSel (cosim (argOf m c) p) (fun j => (j : ℕ)) 10 (π p)) ∧
      (glue fun t => topVals (gcolM m c t) (candM m c t)) = (fun i : S16384x10.Idx => cosim (argOf m c) (i 0) (π (i 0) (i 1).val)) ∧
      (glue fun t => topIxs (gcolM m c t) (candM m c t)) = (fun i : S16384x10.Idx => BitVec.ofNat 32 (π (i 0) (i 1).val).val) := by
  have key : ∀ p : Fin 16384, ∃ π : ℕ → Fin 16384, IsSel (cosim (argOf m c) p) (fun j => (j : ℕ)) 10 π ∧
      ∀ k : Fin 10, topVals (gcolM m c (blkOf p)) (candM m c (blkOf p)) (ix2 (rowIn p) k) = cosim (argOf m c) p (π k.val) ∧
        topIxs (gcolM m c (blkOf p)) (candM m c (blkOf p)) (ix2 (rowIn p) k) = BitVec.ofNat 32 (π k.val).val := by
    intro p
    have hs : ∀ j : Fin 16384, simsOf (F := Ideal) (xnOf m c) (blkOf p) (ix2 (rowIn p) j) = cosim (argOf m c) p j := by
      intro j
      refine (sims_at _ _ _ _).trans (congrArg (fun q => cosim (argOf m c) q j) (Fin.ext ?_))
      show 128 * (p.val / 128) + p.val % 128 = p.val
      omega
    obtain ⟨π, h1, h2⟩ := row_sel (simsOf (F := Ideal) (xnOf m c) (blkOf p)) (blkOf p) (rowIn p)
      (slabsOf (V5 m c (Proc.devRef .tc main_v9) : S10x16384x128.Idx → Elt Ideal .f32) (blkOf p))
      (fun k w q h => v9_at m c (blkOf p) (rowIn p) k w q h)
      (fun j => by rw [hs]; exact cosim_fin _ hz _ _)
    refine ⟨π, ?_, fun k => ?_⟩
    · simpa only [hs] using h1
    · rw [← hs]; exact h2 k
  choose π h1 h2 using key
  refine ⟨π, h1, funext fun i => (h2 (i 0) (i 1)).1, funext fun i => (h2 (i 0) (i 1)).2⟩

/-- The one value of the normalised weights: the product of two equal factors, ten and a bit to the power of minus a half. -/
def lapVal : EReal := Ideal.pow (Ideal.ofBits .f32 0x41200000#32 + Ideal.ofBits .f32 0x33D6BF95#32) (Ideal.ofBits .f32 0xBF000000#32) * Ideal.pow (Ideal.ofBits .f32 0x41200000#32 + Ideal.ofBits .f32 0x33D6BF95#32) (Ideal.ofBits .f32 0xBF000000#32)

/-- Every weight of the kernel is the one value. -/
theorem lap_at (i : S163840.Idx) : shapeCast S163840 (glue fun _ => k3_pay36 (F := Ideal)) shapeCasts_S16384x10_S163840 i = lapVal := by
  have e : (glue fun _ => k3_pay36 (F := Ideal)) = fun _ : S16384x10.Idx => lapVal := by
    funext i
    unfold glue k3_pay36 lapVal
    pointwise
    rfl
  rw [e]; rfl

end Cert.Proof.KI

end
-- ==== Proof.RefVals.lean ====
/-
  The reference's values on the extended reals: its similarities, and its sort's first ten.
-/
module

public import proofs.«01_k».proof.Proof.Spec
public import proofs.«01_k».proof.Proof.Sel
public import proofs.«01_k».proof.Proof.Gen.ReferenceIdeal.Run
public import Idealize.ShloMosaic.Lib.SortPrefix
import Idealize.ShloMosaic.Lib.Pointwise

@[expose] public section
noncomputable section
open Idealize.ShloMosaic Cert.ReferenceIdeal Cert.ReferenceIdeal.Gen
namespace Cert.Proof.RI

/-- The rows normalised, as the reference has them. -/
def refNorm (a : FVec Ideal S16384x64 .f32) : FVec Ideal S16384x64 .f32 :=
  Host.divf a (broadcastInDim S16384x64 ![0, 1] bcast_S16384x1_S16384x64_0_1 (Host.sqrt (broadcastInDim S16384x1 ![0] bcast_S16384_S16384x1_0 (Host.reduceAdd (mulf a a) (constant S_ .f32 0x00000000#32) reducesTo_S16384x64_S16384_d1 h_S_))))

/-- The reference's similarities. -/
def refSims (a : FVec Ideal S16384x64 .f32) : FVec Ideal S16384x16384 .f32 :=
  Host.dotGeneral dot_S16384x64_S64x16384_S16384x16384_1_0_0_1_n_n none (refNorm a) (transpose S64x16384 [1, 0] (refNorm a) transposes_S16384x64_S64x16384_1_0)

/-- The reference's normalised row at an entry. -/
theorem refNorm_at (a : FVec Ideal S16384x64 .f32) (p : Fin 16384) (k : Fin 64) : refNorm a (ix2 p k) = nrm a p k := by
  unfold refNorm nrm
  pointwise

/-- The reference's similarity of two rows. -/
theorem refSims_at (a : FVec Ideal S16384x64 .f32) (p j : Fin 16384) : refSims a (ix2 p j) = cosim a p j := by
  have e : refSims a (ix2 p j) = ∑ l : Fin 64, refNorm a (ix2 p l) * refNorm a (ix2 j l) := by
    unfold refSims
    generalize refNorm a = x
    pointwise
  rw [e]
  exact Finset.sum_congr rfl fun l _ => by rw [refNorm_at, refNorm_at]

/-! ## The sort's first ten -/

/-- The comparison with the position to break ties. -/
def withPos {n : ℕ} (B : Fin n → Fin n → Bool) (k k' : Fin n) : Bool := B k k' || (!B k' k && decide (k < k'))

/-- Inserting below later positions, breaking ties by position changes nothing. -/
theorem insertBefore_withPos {n : ℕ} (B : Fin n → Fin n → Bool) (a : Fin n) (l : List (Fin n)) (h : ∀ b ∈ l, a < b) :
    insertBefore (withPos B) a l = insertBefore B a l := by
  induction l with
  | nil => rfl
  | cons b l ih =>
    have e : withPos B b a = B b a := by
      unfold withPos
      rw [decide_eq_false (not_lt.mpr (h b (List.mem_cons_self ..)).le), Bool.and_false, Bool.or_false]
    unfold insertBefore
    rw [e, ih fun b' hb' => h b' (List.mem_cons_of_mem _ hb')]

/-- A stable sort of positions in their order breaks ties by position. -/
theorem stableSort_withPos {n : ℕ} (B : Fin n → Fin n → Bool) (l : List (Fin n)) (h : l.Pairwise (· < ·)) :
    stableSort (withPos B) l = stableSort B l := by
  induction l with
  | nil => rfl
  | cons a l ih =>
    obtain ⟨h1, h2⟩ := List.pairwise_cons.mp h
    unfold stableSort
    rw [ih h2]
    exact insertBefore_withPos B a _ fun b hb => h1 b ((perm_stableSort B l).mem_iff.mp hb)

/-- The sort by insertion is the sort that breaks ties by position. -/
theorem sortedFrom_withPos {n : ℕ} (B : Fin n → Fin n → Bool) (k : Fin n) : sortedFrom (withPos B) k = sortedFrom B k := by
  have e : sortPositions n (withPos B) = sortPositions n B := stableSort_withPos B _ (List.pairwise_lt_finRange n)
  unfold sortedFrom
  simp only [List.get_eq_getElem, e]
  rfl

/-- The comparison of two entries of a row, greater first. -/
def gtB {n : ℕ} (v : Fin n → EReal) (k k' : Fin n) : Bool := decide (v k' < v k)

/-- Greater first, then by position, is a total order. -/
theorem gtB_total {n : ℕ} (v : Fin n → EReal) : StrictTotalBefore (withPos (gtB v)) where
  irrefl k := by simp [withPos, gtB]
  trans a b c hab hbc := by
    simp only [withPos, gtB, Bool.or_eq_true, Bool.and_eq_true, decide_eq_true_eq, Bool.not_eq_true', decide_eq_false_iff_not, not_lt] at hab hbc ⊢
    rcases hab with hab | ⟨eab, lab⟩ <;> rcases hbc with hbc | ⟨ebc, lbc⟩
    · exact Or.inl (hbc.trans hab)
    · exact Or.inl (ebc.trans_lt hab)
    · exact Or.inl (hbc.trans_le eab)
    · exact Or.inr ⟨ebc.trans eab, lab.trans lbc⟩
  total a b hne := by
    simp only [withPos, gtB, Bool.or_eq_true, Bool.and_eq_true, decide_eq_true_eq, Bool.not_eq_true', decide_eq_false_iff_not, not_lt]
    rcases lt_trichotomy (v a) (v b) with h | h | h
    · exact Or.inr (Or.inl h)
    · rcases lt_or_gt_of_ne hne with hlt | hgt
      · exact Or.inl (Or.inr ⟨h.ge, hlt⟩)
      · exact Or.inr (Or.inr ⟨h.le, hgt⟩)
    · exact Or.inl (Or.inl h)

/-- A selection's choice is where the sort takes its entry from. -/
theorem sortedFrom_sel {n k : ℕ} (hk : k ≤ n) (v : Fin n → EReal) {π : ℕ → Fin n} (h : IsSel v (fun j => (j : ℕ)) k π) (i : Fin k) :
    sortedFrom (gtB v) (i.castLE hk) = π i.val := by
  rw [← sortedFrom_withPos]
  refine StrictTotalBefore.sortedFrom_eq_of_prefix (gtB_total v) hk (fun i : Fin k => π i.val) ?_ ?_ ?_ i
  · exact fun i j e => Fin.ext (h.inj i.isLt j.isLt e)
  · intro i j hij
    have hb := (h i.val i.isLt).2 (π j.val) fun s hs e => by
      have := h.inj (hs.trans i.isLt) j.isLt e
      have : i.val < j.val := hij
      omega
    exact not_before hb
  · intro i p hp
    exact not_before ((h i.val i.isLt).2 p fun s hs => hp ⟨s, hs.trans i.isLt⟩)
where
  not_before {n : ℕ} {v : Fin n → EReal} {a b : Fin n} (hb : Beats v (fun j => (j : ℕ)) a b) : withPos (gtB v) b a = false := by
    unfold withPos gtB
    rcases hb with hb | ⟨he, hl⟩
    · simp [hb, hb.le]
    · have : ¬ b < a := by simpa using hl
      simp [he, this]

/-- The column counter at a column is its number. -/
theorem iota_col (p q : Fin 16384) : iotaInDim S16384x16384 32 1 (ix2 p q) = BitVec.ofNat 32 q.val := by
  pointwise

/-- The sort's first ten, read at an entry: a selection's choices and their columns. -/
theorem topK_at (x : FVec Ideal S16384x16384 .f32) (p : Fin 16384) {π : ℕ → Fin 16384} (h : IsSel (fun j => (x (ix2 p j) : EReal)) (fun j => (j : ℕ)) 10 π) (k : Fin 10) :
    (Host.topK S16384x10 1 (FloatOps.cmpfTotal .gt) x sliceFits_S16384x16384_S16384x10).1 (ix2 p k) = x (ix2 p (π k.val)) ∧
      (Host.topK S16384x10 1 (FloatOps.cmpfTotal .gt) x sliceFits_S16384x16384_S16384x10).2 (ix2 p k) = BitVec.ofNat 32 (π k.val).val := by
  obtain ⟨K, hK⟩ : ∃ K : Fin 16384, K = k.castLE (by decide) := ⟨_, rfl⟩
  have al : ∀ q : Fin 16384, Shape.Idx.along (s := S16384x16384) (ix2 p K) 1 q = ix2 p q := by
    intro q
    funext b
    fin_cases b <;> rfl
  have key : sortedFrom (fun q q' : Fin 16384 => FloatOps.cmpfTotal (F := Ideal) (φ := .f32) .gt (x (ix2 p q)) (x (ix2 p q')) == 1#1) K = π k.val := by
    rw [← sortedFrom_sel (by decide) _ h k, hK]
    refine congrArg (fun B => sortedFrom B _) (funext fun q => funext fun q' => ?_)
    show (BitVec.ofBool (decide ((x (ix2 p q') : EReal) < x (ix2 p q))) == 1#1) = decide ((x (ix2 p q') : EReal) < x (ix2 p q))
    cases decide ((x (ix2 p q') : EReal) < x (ix2 p q)) <;> rfl
  have hJ : (fun a : Fin 2 => (⟨0 + ((ix2 p k : S16384x10.Idx) a).val, by
      have := ((ix2 p k : S16384x10.Idx) a).isLt
      match a with
      | 0 => exact Nat.lt_of_lt_of_le (Nat.add_lt_add_left this 0) (by decide)
      | 1 => exact Nat.lt_of_lt_of_le (Nat.add_lt_add_left this 0) (by decide)⟩ : Fin (S16384x16384.size a))) = ix2 p K := by
    funext a
    refine Fin.ext ((Nat.zero_add _).trans ?_)
    rw [hK]; fin_cases a <;> rfl
  constructor
  · unfold Host.topK Host.sort2 extractStridedSlice
    simp only [show 1 < S16384x16384.rank from by decide, dite_true]
    refine (congrArg (fun J : S16384x16384.Idx => x (J.along (1 : Fin 2) (sortedFrom (fun q q' => FloatOps.cmpfTotal (F := Ideal) (φ := .f32) .gt (x (J.along (1 : Fin 2) q)) (x (J.along (1 : Fin 2) q')) == 1#1) (J 1)))) hJ).trans ?_
    refine (congrArg (fun f : Fin 16384 → S16384x16384.Idx => x (f (sortedFrom (fun q q' => FloatOps.cmpfTotal (F := Ideal) (φ := .f32) .gt (x (f q)) (x (f q')) == 1#1) K))) (funext al)).trans ?_
    exact congrArg (fun q => x (ix2 p q)) key
  · unfold Host.topK Host.sort2 extractStridedSlice
    simp only [show 1 < S16384x16384.rank from by decide, dite_true]
    refine (congrArg (fun J : S16384x16384.Idx => iotaInDim S16384x16384 32 1 (J.along (1 : Fin 2) (sortedFrom (fun q q' => FloatOps.cmpfTotal (F := Ideal) (φ := .f32) .gt (x (J.along (1 : Fin 2) q)) (x (J.along (1 : Fin 2) q')) == 1#1) (J 1)))) hJ).trans ?_
    refine (congrArg (fun f : Fin 16384 → S16384x16384.Idx => iotaInDim S16384x16384 32 1 (f (sortedFrom (fun q q' => FloatOps.cmpfTotal (F := Ideal) (φ := .f32) .gt (x (f q)) (x (f q')) == 1#1) K))) (funext al)).trans ?_
    exact (iota_col p _).trans (congrArg (fun q : Fin 16384 => BitVec.ofNat 32 q.val) key)

end Cert.Proof.RI

end
-- ==== Proof.RefLap.lean ====
/-
  The reference's normalised weights on the extended reals: ten edges leave every row, so every weight is the same number.
-/
module

public import proofs.«01_k».proof.Proof.RefVals

@[expose] public section
noncomputable section
open Idealize.ShloMosaic Cert.ReferenceIdeal Cert.ReferenceIdeal.Gen
namespace Cert.Proof.RI

/-- A scatter of scalars into a vector: an update lands at the entry that its index word, read signed, names. -/
theorem lands_iff {N M : ℕ} (d : ScatterDims ⟨1, ![N]⟩ ⟨2, ![M, 1]⟩ ⟨1, ![M]⟩) (hi : d.insertedWindowDims = [0])
    (hs : d.scatterDimsToOperandDims = [0]) (hv : d.indexVectorDim = 1) (idx : IVec ⟨2, ![M, 1]⟩ 32) (j : Fin M) (p : Fin N) :
    d.resultIdx? (ix1 j) idx = some (ix1 p) ↔ (idx (ix2 j (0 : Fin 1))).toInt = (p.val : ℤ) := by
  have hmem : (0 : Fin 1) ∈ d.scatterDimsToOperandDims := hs ▸ List.mem_singleton_self 0
  have hw : d.window (ix1 j) 0 = 0 := by
    unfold ScatterDims.window
    refine dif_neg fun h => ?_
    have := (List.mem_filter.mp h).2
    rw [hi] at this
    simp at this
  have hsi : ∀ q, d.siIdx (ix1 j) q = ix2 j (0 : Fin 1) := by
    intro q
    funext b
    fin_cases b
    · refine Fin.ext ?_
      have hc : ∀ y : Fin 1, ((ix1 j : (⟨1, ![M]⟩ : Shape).Idx) y).val = j.val := fun y => by fin_cases y; rfl
      unfold ScatterDims.siIdx
      rw [dif_neg (fun h : (0 : ℕ) = d.indexVectorDim => by omega)]
      exact hc _
    · exact Subsingleton.elim (α := Fin 1) _ _
  have hst : d.start (ix1 j) idx 0 = (idx (ix2 j (0 : Fin 1))).toInt := by
    unfold ScatterDims.start
    rw [dif_pos hmem, hsi]
  have hval : d.start (ix1 j) idx 0 + (d.window (ix1 j) 0 : ℤ) = (idx (ix2 j (0 : Fin 1))).toInt := by rw [hst, hw]; simp
  have hp := p.isLt
  unfold ScatterDims.resultIdx?
  constructor
  · intro h
    split at h
    · rename_i hin
      have h0 := congrArg Fin.val (congrFun (Option.some.inj h) 0)
      have h0 : (d.start (ix1 j) idx 0 + (d.window (ix1 j) 0 : ℤ)).toNat = p.val := h0
      have h1 := (hin 0).1
      rw [hval] at h0 h1
      omega
    · cases h
  · intro h
    have hin : ∀ a, 0 ≤ d.start (ix1 j) idx a + (d.window (ix1 j) a : ℤ) ∧ d.start (ix1 j) idx a + (d.window (ix1 j) a : ℤ) < ((⟨1, ![N]⟩ : Shape).size a : ℤ) := by
      intro a
      obtain rfl : a = 0 := Subsingleton.elim (α := Fin 1) _ _
      show _ ∧ _ < (N : ℤ)
      rw [hval]
      omega
    rw [dif_pos hin]
    refine congrArg some (funext fun a => Fin.ext ?_)
    obtain rfl : a = 0 := Subsingleton.elim (α := Fin 1) _ _
    show (d.start (ix1 j) idx 0 + (d.window (ix1 j) 0 : ℤ)).toNat = p.val
    rw [hval]
    omega

/-- The edges' rows, ten of each. -/
def refRows : IVec S163840 32 := shapeCast S163840 (broadcastInDim S16384x10 ![0] bcast_S16384_S16384x10_0 (iotaInDim S16384 32 0)) shapeCasts_S16384x10_S163840

/-- The index words of a take or of a scatter from a list of places: a negative place counts from the end. -/
def refIdx (x : IVec S163840 32) : IVec S163840x1 32 :=
  broadcastInDim S163840x1 ![0] bcast_S163840_S163840x1_0 (select (cmpi .slt x (broadcastInDim S163840 ![] bcast_S_S163840 (constantI S_ 32 0#32))) (addi x (broadcastInDim S163840 ![] bcast_S_S163840 (constantI S_ 32 16384#32))) x)

/-- The rows' degrees. -/
def refDeg : FVec Ideal S16384 .f32 :=
  Host.scatterAdd scatter_S16384_S163840x1_S163840_n_0_0_1 (broadcastInDim S16384 ![] bcast_S_S16384 (constant S_ .f32 0x00000000#32)) (refIdx refRows) (broadcastInDim S163840 ![] bcast_S_S163840 (constant S_ .f32 0x3F800000#32))

/-- The degrees, a bit added, to the power of minus a half. -/
def refInv : FVec Ideal S16384 .f32 :=
  Host.powf (addf refDeg (broadcastInDim S16384 ![] bcast_S_S16384 (constant S_ .f32 0x33D6BF95#32))) (broadcastInDim S16384 ![] bcast_S_S16384 (constant S_ .f32 0xBF000000#32))

/-- Entry `j` of the row numbers is `j / 10`. -/
theorem refRows_at (j : Fin 163840) : refRows (ix1 j) = BitVec.ofNat 32 (j.val / 10) := by
  unfold refRows
  pointwise

/-- A small number, read as a signed word, is itself. -/
theorem toInt_small (n : ℕ) (h : n < 2147483648) : (BitVec.ofNat 32 n).toInt = (n : ℤ) := by
  have e : n % 4294967296 = n := by omega
  rw [BitVec.toInt_eq_toNat_cond, BitVec.toNat_ofNat]
  show (if 2 * (n % 4294967296) < 4294967296 then ((n % 4294967296 : ℕ) : ℤ) else _) = _
  rw [e, if_pos (by omega)]

/-- Entry `j` of the row numbers, wrapped for indexing, is still `j / 10`. -/
theorem refIdx_at (j : Fin 163840) : (refIdx refRows (ix2 j (0 : Fin 1))).toInt = ((j.val / 10 : ℕ) : ℤ) := by
  have e : refIdx refRows (ix2 j (0 : Fin 1)) = BitVec.ofNat 32 (j.val / 10) := by
    have h := refRows_at j
    generalize refRows = R at h
    unfold refIdx
    pointwise
    have hs : IntOp.cmpi .slt (R (ix1 j)) 0#32 = 0#1 := by
      have : BitVec.slt (R (ix1 j)) 0#32 = false := by
        unfold BitVec.slt
        rw [h, toInt_small _ (by have := j.isLt; omega)]
        refine decide_eq_false ?_
        show ¬ ((j.val / 10 : ℕ) : ℤ) < 0
        omega
      show BitVec.ofBool (BitVec.slt (R (ix1 j)) 0#32) = 0#1
      rw [this]; rfl
    rw [hs, h]; rfl
  rw [e, toInt_small _ (by have := j.isLt; omega)]

/-- An accumulating scatter read at an entry: what was there and what lands there. -/
theorem scatterAdd_at {s si u : Shape} {w : ℕ} (d : ScatterDims s si u) (x : FVec Ideal s .f32) (idx : IVec si w) (upd : FVec Ideal u .f32) (i : s.Idx) :
    (Host.scatterAdd d x idx upd i : EReal) = x i + ∑ j ∈ Finset.univ.filter (fun j => d.resultIdx? j idx = some i), upd j := rfl

/-- The float word of ten is ten. -/
theorem ofBits_ten : Ideal.ofBits .f32 0x41200000#32 = 10 := by
  simp [Ideal.ofBits, Ideal.ieee, -EReal.coe_mul]
  rw [show (10485760 * (2 ^ 20)⁻¹ : ℝ) = 10 by norm_num]
  rfl

/-- The sums start at zero. -/
theorem zero_at (p : Fin 16384) : (broadcastInDim S16384 ![] bcast_S_S16384 (constant (F := Ideal) S_ .f32 0x00000000#32) (ix1 p) : EReal) = 0 := by
  pointwise

/-- Every addend is one. -/
theorem one_at (j : Fin 163840) : (broadcastInDim S163840 ![] bcast_S_S163840 (constant (F := Ideal) S_ .f32 0x3F800000#32) (ix1 j) : EReal) = 1 := by
  pointwise

/-- Each row's sum of ones is ten. -/
theorem refDeg_at (p : Fin 16384) : refDeg (ix1 p) = Ideal.ofBits .f32 0x41200000#32 := by
  have h1 : (refDeg (ix1 p) : EReal) = 0 + ∑ j ∈ Finset.univ.filter (fun j => (scatter_S16384_S163840x1_S163840_n_0_0_1).resultIdx? j (refIdx refRows) = some (ix1 p)), (1 : EReal) := by
    unfold refDeg
    rw [scatterAdd_at]
    refine congrArg₂ (fun x y : EReal => x + y) (zero_at p) (Finset.sum_congr rfl fun j _ => ?_)
    obtain ⟨j, rfl⟩ : ∃ j' : Fin 163840, j = ix1 j' := ⟨j 0, by funext b; fin_cases b; rfl⟩
    exact one_at j
  rw [h1]
  have h2 : (Finset.univ.filter (fun j : S163840.Idx => (scatter_S16384_S163840x1_S163840_n_0_0_1).resultIdx? j (refIdx refRows) = some (ix1 p)))
      = Finset.univ.image (fun q : Fin 10 => (ix1 (⟨p.val * 10 + q.val, by omega⟩ : Fin 163840) : S163840.Idx)) := by
    ext j
    obtain ⟨j, rfl⟩ : ∃ j' : Fin 163840, j = ix1 j' := ⟨j 0, by funext b; fin_cases b; rfl⟩
    rw [Finset.mem_filter, lands_iff _ rfl rfl rfl, refIdx_at, Finset.mem_image]
    constructor
    · rintro ⟨-, h⟩
      exact ⟨⟨j.val % 10, by omega⟩, Finset.mem_univ _, congrArg ix1 (Fin.ext (by show p.val * 10 + j.val % 10 = j.val; omega))⟩
    · rintro ⟨q, -, h⟩
      have h : p.val * 10 + q.val = j.val := congrArg Fin.val (congrFun h 0)
      exact ⟨Finset.mem_univ _, by omega⟩
  rw [h2, Finset.sum_image (fun q _ q' _ h => Fin.ext (by
    have h : p.val * 10 + q.val = p.val * 10 + q'.val := congrArg Fin.val (congrFun h 0)
    omega))]
  rw [ofBits_ten, zero_add, Finset.sum_const, Finset.card_univ, Fintype.card_fin]
  simp

/-- The one value of the reference's normalised weights. -/
def refLapVal : EReal := Ideal.pow (Ideal.ofBits .f32 0x41200000#32 + Ideal.ofBits .f32 0x33D6BF95#32) (Ideal.ofBits .f32 0xBF000000#32)

/-- Every row's factor is the one value. -/
theorem refInv_eq : refInv = fun _ => refLapVal := by
  refine funext fun i => ?_
  obtain ⟨p, hp⟩ : ∃ p : Fin 16384, i = ix1 p := ⟨i 0, by funext b; fin_cases b; rfl⟩
  rw [hp]
  have h := refDeg_at p
  unfold refInv refLapVal
  generalize refDeg = D at h
  pointwise
  rw [h]

/-- A gather from a constant array is constant. -/
theorem gather_const {α : Type} {s si t : Shape} {w : ℕ} (d : GatherDims s si t) (v : α) (idx : IVec si w) : Host.gather d (fun _ => v) idx = fun _ => v := rfl

/-- Every weight of the reference is the square of the one value. -/
theorem refLap (m : (ℓ : Loc nD τ sig) → Buf (Elt Ideal) ℓ) (c : Dev nD) :
    Cert.ReferenceIdeal.Value.res_main_v39 m c = fun _ : S163840.Idx => refLapVal * refLapVal := by
  have e : Cert.ReferenceIdeal.Value.res_main_v39 m c = mulf (Host.gather gather_S16384_S163840x1_S163840_n_0_n_n_0_1_1 refInv (refIdx refRows))
      (Host.gather gather_S16384_S163840x1_S163840_n_0_n_n_0_1_1 refInv (refIdx (shapeCast S163840 (Host.topK S16384x10 1 (FloatOps.cmpfTotal .gt) (refSims (m ((c.tc : Thread nD τ).loc main_arg0))) sliceFits_S16384x16384_S16384x10).2 shapeCasts_S16384x10_S163840))) := rfl
  rw [e, refInv_eq, gather_const, gather_const]
  exact funext fun _ => rfl

end Cert.Proof.RI

end
-- ==== Proof.Algebraic.lean ====
/-
  The value claim: on the extended reals, from one argument with no zero row, the kernel's three results are the
  reference's.
-/
module

public import proofs.«01_k».proof.Defs
public import proofs.«01_k».proof.Proof.Frames
public import proofs.«01_k».proof.Proof.KI.Result
public import proofs.«01_k».proof.Proof.RefLap

@[expose] public section

set_option maxRecDepth 16384

noncomputable section

namespace Cert.Proof

open Idealize.ShloMosaic Idealize.SL.Sem Idealize.ShloMosaic.TcCoe

/-- The precondition's own side conditions. -/
theorem preFacts : Cert.Pre_no_zero_row.Facts where
  bcast_S_S16384x64 := by decide
  reducesTo_S16384x64_S16384_d1 := by decide
  h_S_ := by decide
  reducesTo_S16384_S_d0 := by decide

/-- A conjunction of bits is set only if each of them is. -/
theorem all_of_fold {ι : Type} (S : Finset ι) (f : ι → BitVec 1) (h : S.fold IntOp.andi 1#1 f = 1#1) : ∀ i ∈ S, f i = 1#1 := by
  induction S using Finset.cons_induction with
  | empty => simp
  | cons a S ha ih =>
    rw [Finset.fold_cons] at h
    have hb : ∀ x y : BitVec 1, IntOp.andi x y = 1#1 → x = 1#1 ∧ y = 1#1 := by decide
    obtain ⟨h1, h2⟩ := hb _ _ h
    intro i hi
    rcases Finset.mem_cons.mp hi with rfl | hi
    · exact h1
    · exact ih h2 i hi

/-- A disjunction of bits is set only if one of them is. -/
theorem any_of_fold {ι : Type} (S : Finset ι) (f : ι → BitVec 1) (h : S.fold IntOp.ori 0#1 f = 1#1) : ∃ i ∈ S, f i = 1#1 := by
  induction S using Finset.cons_induction with
  | empty => exact absurd h (by simp)
  | cons a S ha ih =>
    rw [Finset.fold_cons] at h
    have hb : ∀ x y : BitVec 1, IntOp.ori x y = 1#1 → x = 1#1 ∨ y = 1#1 := by decide
    rcases hb _ _ h with h | h
    · exact ⟨a, Finset.mem_cons_self .., h⟩
    · obtain ⟨i, hi, e⟩ := ih h
      exact ⟨i, Finset.mem_cons_of_mem hi, e⟩

/-- The precondition says that every row has an entry that isn't zero. -/
theorem rows_ne [Cert.Pre_no_zero_row.Facts] (a : FVec Ideal Cert.Pre_no_zero_row.S16384x64 .f32)
    (h : Cert.Pre_no_zero_row.fn (F := Ideal) a = fun _ => 1#1) (p : Fin 16384) : ∃ l : Fin 64, a (ix2 p l) ≠ (0 : EReal) := by
  have h0 := congrFun h ix0
  unfold Cert.Pre_no_zero_row.fn at h0
  pointwise at h0
  obtain ⟨l, -, hl⟩ := any_of_fold _ _ (all_of_fold _ _ h0 p (Finset.mem_univ _))
  have hb : ∀ b : Bool, BitVec.ofBool b = 1#1 → b = true := by decide
  exact ⟨l, of_decide_eq_true (hb _ hl)⟩

open Cert.ReferenceIdeal Cert.ReferenceIdeal.Gen in
/-- The reference's three results for a choice of ten columns for every row. -/
theorem ref_results (m : (ℓ : Loc nD τ sig) → Buf (Elt Ideal) ℓ) (c : Dev nD) (a : (⟨2, ![16384, 64]⟩ : Shape).Idx → EReal)
    (ha : m ((c.tc : Thread nD τ).loc main_arg0) = a) {π : Fin 16384 → ℕ → Fin 16384} (h : ∀ p, IsSel (cosim a p) (fun j => (j : ℕ)) 10 (π p)) :
    (Host.topK S16384x10 1 (FloatOps.cmpfTotal .gt) (RI.refSims (m ((c.tc : Thread nD τ).loc main_arg0))) sliceFits_S16384x16384_S16384x10).1
        = (fun i : S16384x10.Idx => cosim a (i 0) (π (i 0) (i 1).val)) ∧
      (Host.topK S16384x10 1 (FloatOps.cmpfTotal .gt) (RI.refSims (m ((c.tc : Thread nD τ).loc main_arg0))) sliceFits_S16384x16384_S16384x10).2
        = (fun i : S16384x10.Idx => BitVec.ofNat 32 (π (i 0) (i 1).val).val) := by
  rw [ha]
  have hx : ∀ p : Fin 16384, IsSel (fun j => (RI.refSims a (ix2 p j) : EReal)) (fun j => (j : ℕ)) 10 (π p) := fun p => by
    have e : (fun j => (RI.refSims a (ix2 p j) : EReal)) = cosim a p := funext fun j => RI.refSims_at a p j
    rw [e]; exact h p
  have hi : ∀ i : S16384x10.Idx, i = ix2 (i 0) (i 1) := fun i => by funext b; fin_cases b <;> rfl
  constructor
  · refine funext fun i => ?_
    rw [hi i]
    exact (RI.topK_at _ (i 0) (hx (i 0)) (i 1)).1.trans (RI.refSims_at a _ _)
  · refine funext fun i => ?_
    rw [hi i]
    exact (RI.topK_at _ (i 0) (hx (i 0)) (i 1)).2

/-- The kernel's results are the reference's. -/
theorem alg [Cert.Pre_no_zero_row.Facts] : algebraic_KernelIdeal_ReferenceIdeal_pre_no_zero_row := by
  intro m g m' g' hpre hm
  refine ⟨fun c => KI.V7 m c (Proc.devRef .tc Cert.KernelIdeal.main_v10_0), fun c => KI.V7 m c (Proc.devRef .tc Cert.KernelIdeal.main_v18),
    fun c => KI.V7 m c (Proc.devRef .tc Cert.KernelIdeal.main_v17), ?_, ?_⟩
  · exact (θ_run _ _ _).mono (fun _ h c => ⟨h.1 c _ (KI.mem_uc Cert.KernelIdeal.main_v10_0 (by decide)), h.1 c _ (KI.mem_uc Cert.KernelIdeal.main_v18 (by decide)),
      h.1 c _ (KI.mem_uc Cert.KernelIdeal.main_v17 (by decide)), (h.1 c _ (KI.mem_uc Cert.KernelIdeal.main_arg0 (by decide))).trans (KI.V7_arg0 m c)⟩) (KI.run_main m g)
  · refine (θ_run _ _ _).mono (fun _ h c => ?_) (Cert.ReferenceIdeal.Value.run (F := Ideal) m' g')
    obtain ⟨h1, h2, h3, h4⟩ := h c
    obtain ⟨π, hs, hv, hx⟩ := KI.rows_sel m c (rows_ne _ (hpre c))
    obtain ⟨r1, r2⟩ := ref_results m' c (KI.argOf m c) (hm c) hs
    refine ⟨h1.trans (r1.trans (hv.symm.trans (KI.V7_vals m c).symm)), h2.trans ((RI.refLap m' c).trans ?_), h3.trans ?_, h4⟩
    · refine Eq.trans ?_ (KI.V7_lap m c).symm
      exact funext fun i => (KI.lap_at i).symm
    · refine Eq.trans ?_ (KI.V7_ixs m c).symm
      rw [hx, ← r2]
      rfl

end Cert.Proof

end
-- ==== Proof.lean ====
/-
  The certificate's claims, assembled: the frames of the kernel at the machine's floats and at the extended reals and of
  the reference, the idealization's statement, and the value claim: the kernel's three results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, preFacts,
  fun m g _ => frame_P m g, fun m g _ => frame_PI m g, fun m g _ => frame_PI m g, fun m g _ => frame_RI m g, fun m g _ => frame_RI m g, trivial,
  haveI := preFacts; alg⟩

end Cert.Proof

end
